-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S2x1024x2048 : Shape := ⟨3, ![2, 1024, 2048]⟩
abbrev S3 : Shape := ⟨1, ![3]⟩
abbrev S_ : Shape := ⟨0, ![]⟩
abbrev S1024x1024 : Shape := ⟨2, ![1024, 1024]⟩
abbrev S1x1024x2048 : Shape := ⟨3, ![1, 1024, 2048]⟩

abbrev nBuf : Space → Nat
  | .hbm => 5
  | .vmem => 4
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x2048, .fp8e5m2⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .fp8e4m3⟩
  | .local _ .vmem, ⟨1, _⟩ => ⟨S1024x2048, .fp8e5m2⟩
  | .local _ .vmem, ⟨2, _⟩ => ⟨S1024x2048, .f32⟩
  | .local _ .vmem, ⟨3, _⟩ => ⟨S2x1024x2048, .f32⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) (c3_i32_9 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c3_i32_9
  let c4_i32_10 : BitVec 32 := 4#32
  let v16 : BitVec 32 := Scalar.remsi v15 c4_i32_10
  let c1024_i32 : BitVec 32 := 1024#32
  let v17 : BitVec 32 := Scalar.muli v16 c1024_i32
  let v18 : Index := Scalar.indexCast v17
  let c0_11 : Index := 0#32
  ![v18.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_19 : BitVec 32 := 1#32
  let v26 : BitVec 32 := Scalar.muli v6 c1_i32_19
  let v27 : BitVec 32 := Scalar.addi c0_i32_20 v26
  v27.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_45 : BitVec 32 := 1#32
  let v50 : BitVec 32 := Scalar.muli v4 c1_i32_45
  let v51 : BitVec 32 := Scalar.addi c0_i32_46 v50
  v51.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_62 : BitVec 32 := 1#32
  let v66 : BitVec 32 := Scalar.muli v6 c1_i32_62
  let v67 : BitVec 32 := Scalar.addi c0_i32_63 v66
  v67.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_88 : BitVec 32 := 1#32
  let v90 : BitVec 32 := Scalar.muli v4 c1_i32_88
  let v91 : BitVec 32 := Scalar.addi c0_i32_89 v90
  v91.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_106 : BitVec 32 := 1#32
  let v106 : BitVec 32 := Scalar.muli v6 c1_i32_106
  let v107 : BitVec 32 := Scalar.addi c0_i32_107 v106
  v107.toNat
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
# The ring's protocol

Four devices stand in a ring. Each keeps a running partial product in a buffer of two slots and, three times,
copies one slot into a slot of its right neighbour. This module fixes the vocabulary of the proof:

* the ring (`nxt`, `prv`) and the devices the kernel's signals and transfers address;
* the seven semaphore cells of a device: the barrier cell, three send cells, three receive cells;
* the slots and the values they hold after each hop (`acc0`, `acc1`, `acc2`) and the result (`outAt`);
* the schedule of the cells in rounds: what a unit of each cell pays for and what it hands over;
* what a device owes at the start and the levels that order the waits.

The barrier cell runs three rounds. In round 0 both neighbours pay one unit: the left neighbour nothing more, the
right neighbour its slot 1. In rounds 1 and 2 the right neighbour alone pays one unit, handing over the slot it has
finished with: slot 0, then slot 1. A device copies into its right neighbour's slot only after such a unit.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ring's rounds: cells of the machine, duties named by a truth value. -/
abbrev UB : Type := URounds (GSem nD τ sig) Bool
/-- The pipeline's rounds beside the ring's. -/
abbrev UU : Type := UR sig nD τ × UB

/-- Resources of the proof; debts and credits are indexed by a round number. -/
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The devices addressed, in program order: the two signals of the entry handshake, the first copy, the first
    credit, the second copy, the second credit, the third copy. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)

/-- The ring as a permutation of the devices. -/
def ring : Dev nD ≃ Dev nD := ⟨nxt, prv, prv_nxt, nxt_prv⟩

/-! ## The memrefs and cells -/

abbrev xM : Memref sig .tc .vmem S4096x1024 .fp8e4m3 := Memref.whole cc0_stg0_0
abbrev wM : Memref sig .tc .vmem S1024x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S1024x2048 .f32 := Memref.whole cc0_stg4_0
abbrev cM : Memref sig .tc .vmem S2x1024x2048 .f32 := Memref.whole cc0_scratch0

/-- The rectangles of the two slots in the communication buffer. -/
abbrev rc0 : Rect S2x1024x2048 := Rect.unit (s := S2x1024x2048) ![0, 0, 0] S1x1024x2048.size inb_S2x1024x2048_S1x1024x2048_0_0_0
abbrev rc1 : Rect S2x1024x2048 := Rect.unit (s := S2x1024x2048) ![1, 0, 0] S1x1024x2048.size inb_S2x1024x2048_S1x1024x2048_1_0_0
/-- The two slots, as the transfers name them. -/
abbrev m0 : Memref sig .tc .vmem S1024x2048 .f32 :=
  (cM.slice rc0 (fun _ => rfl) : Memref sig .tc .vmem S1x1024x2048 .f32).squeeze S1024x2048 squeezes_S1x1024x2048_S1024x2048
abbrev m1 : Memref sig .tc .vmem S1024x2048 .f32 :=
  (cM.slice rc1 (fun _ => rfl) : Memref sig .tc .vmem S1x1024x2048 .f32).squeeze S1024x2048 squeezes_S1x1024x2048_S1024x2048

/-- The barrier semaphore, the three send and the three receive semaphores. -/
abbrev barS : Sem sig := (SemArray.scalar (sig.barrier 0 rfl) : Sems sig S_).sem
abbrev sS0 : DmaSem sig := ((cc0_scratch1.slice (Rect.unit (s := S3) ![0] S1.size inb_S3_S1_0) : DmaSems sig S1).squeeze S_ squeezes_S1_S_).sem
abbrev sS1 : DmaSem sig := ((cc0_scratch1.slice (Rect.unit (s := S3) ![1] S1.size inb_S3_S1_1) : DmaSems sig S1).squeeze S_ squeezes_S1_S_).sem
abbrev sS2 : DmaSem sig := ((cc0_scratch1.slice (Rect.unit (s := S3) ![2] S1.size inb_S3_S1_2) : DmaSems sig S1).squeeze S_ squeezes_S1_S_).sem
abbrev sR0 : DmaSem sig := ((cc0_scratch2.slice (Rect.unit (s := S3) ![0] S1.size inb_S3_S1_0) : DmaSems sig S1).squeeze S_ squeezes_S1_S_).sem
abbrev sR1 : DmaSem sig := ((cc0_scratch2.slice (Rect.unit (s := S3) ![1] S1.size inb_S3_S1_1) : DmaSems sig S1).squeeze S_ squeezes_S1_S_).sem
abbrev sR2 : DmaSem sig := ((cc0_scratch2.slice (Rect.unit (s := S3) ![2] S1.size inb_S3_S1_2) : DmaSems sig S1).squeeze S_ squeezes_S1_S_).sem

/-- Their numbers in the pool. -/
theorem sS0_eq : sS0 = (5 : Fin 11) := rfl
theorem sS1_eq : sS1 = (6 : Fin 11) := rfl
theorem sS2_eq : sS2 = (7 : Fin 11) := rfl
theorem sR0_eq : sR0 = (8 : Fin 11) := rfl
theorem sR1_eq : sR1 = (9 : Fin 11) := rfl
theorem sR2_eq : sR2 = (10 : Fin 11) := rfl

abbrev barCell (c : Dev nD) : GSem nD τ sig := ((c : Thread nD τ), .reg barS)
abbrev cell (c : Dev nD) (q : DmaSem sig) : GSem nD τ sig := ((c : Thread nD τ), .dma q)

/-- The kernel's own scoped semaphores; -/
abbrev osem : Fin 6 → SemLoc sig := fun | 0 => .dma sS0 | 1 => .dma sS1 | 2 => .dma sS2 | 3 => .dma sR0 | 4 => .dma sR1 | 5 => .dma sR2
/-- all seven of the ring's. -/
abbrev csem : Fin 7 → SemLoc sig := fun | 0 => .reg barS | 1 => .dma sS0 | 2 => .dma sS1 | 3 => .dma sS2 | 4 => .dma sR0 | 5 => .dma sR1 | 6 => .dma sR2
abbrev kcell (ck : Dev nD × Fin 7) : GSem nD τ sig := ((ck.1 : Thread nD τ), csem ck.2)

/-- The credit of one transferred block. -/
abbrev N : ℕ := (m0 : Memref sig .tc .vmem S1024x2048 .f32).view.dmaCredit
theorem N_pos : 0 < N := View.dmaCredit_pos _ (by decide)

/-! ## Contents -/

/-- The staged blocks of device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- The rectangle of 1024 rows of the staged block of `x` that the kernel reads at the chain constant `k`. -/
abbrev rx (c : Dev nD) (k : BitVec 32) (h : ∀ a, k0_off1 c k a + S1024x1024.size a ≤ S4096x1024.size a) : Rect S4096x1024 :=
  Rect.unit (s := S4096x1024) (k0_off1 c k) S1024x1024.size h

/-- The rows read for the first, second, third and last partial product. -/
def xs0 (c : Dev nD) : Vec F S1024x1024 .fp8e4m3 := xM.view.readAt (Elt F) (rx c 3#32 (k0_off1_inb c 0)).toLoadRect (xstg m ρ c)
def xs1 (c : Dev nD) : Vec F S1024x1024 .fp8e4m3 := xM.view.readAt (Elt F) (rx c 6#32 (k0_off1_inb c 3)).toLoadRect (xstg m ρ c)
def xs2 (c : Dev nD) : Vec F S1024x1024 .fp8e4m3 := xM.view.readAt (Elt F) (rx c 5#32 (k0_off1_inb c 2)).toLoadRect (xstg m ρ c)
def xs3 (c : Dev nD) : Vec F S1024x1024 .fp8e4m3 := xM.view.readAt (Elt F) (rx c 4#32 (k0_off1_inb c 1)).toLoadRect (xstg m ρ c)

/-- The one word of each staged scale. -/
abbrev rs : Rect S1 := Rect.unit (s := S1) ![0] S1.size inb_S1_S1_0
def sx (c : Dev nD) : Elt F .f32 := (sxM.access rs).read (Elt F) (sxstg m ρ c) (Shape.Idx.first (numel1_S1.symm ▸ Nat.one_pos))
def sw (c : Dev nD) : Elt F .f32 := (swM.access rs).read (Elt F) (swstg m ρ c) (Shape.Idx.first (numel1_S1.symm ▸ Nat.one_pos))

/-- A partial product: 1024 rows of the block of `x` by the block of `w`. -/
def mm (w : Vec F S1024x2048 .fp8e5m2) (x : Vec F S1024x1024 .fp8e4m3) : FVec F S1024x2048 .f32 :=
  matmul dot_S1024x1024_S1024x2048_S1024x2048_1_0_0_1_n_n none
    (extf .bf16 (shapeCast S1024x1024 x shapeCasts_S1024x1024_S1024x1024) bitsLt_fp8e4m3_bf16) (k0_pay2 w) (constant S1024x2048 .f32 0x00000000#32)

/-- What device `c` sends in the first, the second and the third hop. -/
def acc0 (c : Dev nD) : FVec F S1024x2048 .f32 := mm (wstg m ρ c) (xs0 m ρ c)
def acc1 (c : Dev nD) : FVec F S1024x2048 .f32 := addf (acc0 m ρ (prv c)) (mm (wstg m ρ c) (xs1 m ρ c))
def acc2 (c : Dev nD) : FVec F S1024x2048 .f32 := addf (acc1 m ρ (prv c)) (mm (wstg m ρ c) (xs2 m ρ c))

/-- The last step: scale the full sum and multiply it by its logistic. -/
def fin1 (acc : FVec F S1024x2048 .f32) (a b : Elt F .f32) : FVec F S1024x2048 .f32 :=
  mulf (mulf acc (broadcast S1024x2048 (Scalar.mulf a b : F .f32))) (logistic (mulf acc (broadcast S1024x2048 (Scalar.mulf a b : F .f32))))

/-- The kernel's result on device `c`. -/
def outAt (c : Dev nD) : (cc0_stg4_0 : Ref sig .tc).ty.Contents (Elt F) :=
  fin1 (addf (acc2 m ρ (prv c)) (mm (wstg m ρ c) (xs3 m ρ c))) (sx m ρ c) (sw m ρ c)

/-- A slot of device `c` owned, holding `X`. -/
def slot0 (c : Dev nD) (X : FVec F S1024x2048 .f32) : sProp 𝕄 :=
  iprop(∃ f : Buf (Elt F) ((m0 : Memref sig .tc .vmem S1024x2048 .f32).view.loc (c : Thread nD τ)),
    ⌜(m0 : Memref sig .tc .vmem S1024x2048 .f32).view.read (Elt F) f = X⌝
      ∗ ((m0 : Memref sig .tc .vmem S1024x2048 .f32).view.loc (c : Thread nD τ) ↦[(m0 : Memref sig .tc .vmem S1024x2048 .f32).view.set]{fullShare} f))
def slot1 (c : Dev nD) (X : FVec F S1024x2048 .f32) : sProp 𝕄 :=
  iprop(∃ f : Buf (Elt F) ((m1 : Memref sig .tc .vmem S1024x2048 .f32).view.loc (c : Thread nD τ)),
    ⌜(m1 : Memref sig .tc .vmem S1024x2048 .f32).view.read (Elt F) f = X⌝
      ∗ ((m1 : Memref sig .tc .vmem S1024x2048 .f32).view.loc (c : Thread nD τ) ↦[(m1 : Memref sig .tc .vmem S1024x2048 .f32).view.set]{fullShare} f))

omit [FloatOps F] in
instance slot0_storable (c : Dev nD) (X) : BI.Storable (upEmb : UEmb _ 𝕄) (slot0 (F := F) c X) := by unfold slot0; infer_instance
omit [FloatOps F] in
instance slot1_storable (c : Dev nD) (X) : BI.Storable (upEmb : UEmb _ 𝕄) (slot1 (F := F) c X) := by unfold slot1; infer_instance

omit [FloatOps F] in
theorem m0_set : (m0 : Memref sig .tc .vmem S1024x2048 .f32).view.set = rc0.set := (View.set_reshape _ _).trans (View.set_slice_whole _ _)
omit [FloatOps F] in
theorem m1_set : (m1 : Memref sig .tc .vmem S1024x2048 .f32).view.set = rc1.set := (View.set_reshape _ _).trans (View.set_slice_whole _ _)

omit [FloatOps F] in
/-- Slot 1 is what slot 0 leaves of the buffer. -/
theorem rc1_set : rc1.set = Finset.univ \ rc0.set := by
  ext i
  rw [Finset.mem_sdiff, Rect.mem_set_unit, Rect.mem_set_unit]
  have h0 : (i 0 : ℕ) < 2 := (i 0).isLt
  have h1 : (i 1 : ℕ) < 1024 := (i 1).isLt
  have h2 : (i 2 : ℕ) < 2048 := (i 2).isLt
  constructor
  · intro h
    refine ⟨Finset.mem_univ _, fun h' => ?_⟩
    have a := (h 0).1; have b := (h' 0).2
    change 1 ≤ (i 0 : ℕ) at a; change (i 0 : ℕ) < 0 + 1 at b; omega
  · rintro ⟨-, h⟩ a
    have hi0 : (i 0 : ℕ) = 1 := by
      by_contra hne
      refine h fun a => ?_
      match a with
      | 0 => exact ⟨Nat.zero_le _, show (i 0 : ℕ) < 0 + 1 by omega⟩
      | 1 => exact ⟨Nat.zero_le _, show (i 1 : ℕ) < 0 + 1024 by omega⟩
      | 2 => exact ⟨Nat.zero_le _, show (i 2 : ℕ) < 0 + 2048 by omega⟩
    match a with
    | 0 => exact ⟨show 1 ≤ (i 0 : ℕ) by omega, show (i 0 : ℕ) < 1 + 1 by omega⟩
    | 1 => exact ⟨Nat.zero_le _, show (i 1 : ℕ) < 0 + 1024 by omega⟩
    | 2 => exact ⟨Nat.zero_le _, show (i 2 : ℕ) < 0 + 2048 by omega⟩

omit [FloatOps F] in
/-- The whole buffer is its two slots; -/
theorem scratch_split (c : Dev nD) (f : Buf (Elt F) ((c : Thread nD τ).loc cc0_scratch0)) :
    (((c : Thread nD τ).loc cc0_scratch0) ↦{fullShare} f : sProp 𝕄) ⊢ iprop((∃ X, slot0 c X) ∗ (∃ X, slot1 c X)) := by
  refine (pointsTo_split_subset (Finset.subset_univ rc0.set)).1.trans ?_
  rw [← rc1_set]
  unfold slot0 slot1
  rw [m0_set, m1_set]
  iintro ⟨H0, H1⟩
  isplitl [H0]
  · iexists _, f; isplitr; · (ipureintro; rfl)
    iexact H0
  · iexists _, f; isplitr; · (ipureintro; rfl)
    iexact H1

omit [FloatOps F] in
/-- and the two slots are the whole buffer. -/
theorem scratch_join (c : Dev nD) (X Y : FVec F S1024x2048 .f32) :
    iprop(slot0 c X ∗ slot1 c Y) ⊢ (iprop(∃ f : Buf (Elt F) ((c : Thread nD τ).loc cc0_scratch0), ((c : Thread nD τ).loc cc0_scratch0) ↦{fullShare} f) : sProp 𝕄) := by
  unfold slot0 slot1
  rw [m0_set, m1_set, rc1_set]
  iintro ⟨⟨%f, -, H0⟩, ⟨%g, -, H1⟩⟩
  iexists rc0.set.piecewise f g
  iapply (pointsTo_join_subset (Finset.subset_univ rc0.set))
  isplitl [H0]; · iexact H0
  iexact H1

/-! ## The schedule -/

/-- What the right neighbour's unit of `c`'s barrier cell hands `c`: in rounds 0 and 2 that neighbour's slot 1, in
    round 1 its slot 0. -/
def barPay (r : ℕ) (c : Dev nD) : sProp 𝕄 :=
  if r = 1 then iprop(∃ X, slot0 (nxt c) X) else iprop(∃ X, slot1 (nxt c) X)

/-- What a hop's arrival hands device `c`: the slot written, holding what the left neighbour sent, and — after the
    first two hops — the left neighbour's word that it has passed the rounds before on its barrier cell. -/
def recvPay0 (c : Dev nD) : sProp 𝕄 := iprop(slot1 c (acc0 m ρ (prv c)) ∗ reached ER (barCell (prv c)) 1)
def recvPay1 (c : Dev nD) : sProp 𝕄 := iprop(slot0 c (acc1 m ρ (prv c)) ∗ reached ER (barCell (prv c)) 2)
def recvPay2 (c : Dev nD) : sProp 𝕄 := slot1 c (acc2 m ρ (prv c))

/-- A barrier cell has three rounds, of two duties, one and one; a send or receive cell one round of one duty. -/
def ringDuties (sm : SemLoc sig) (r : ℕ) : Finset Bool :=
  if sm = .reg barS then (if r = 0 then Finset.univ else if r = 1 ∨ r = 2 then {true} else ∅)
  else if r = 0 ∧ (sm = .dma sS0 ∨ sm = .dma sS1 ∨ sm = .dma sS2 ∨ sm = .dma sR0 ∨ sm = .dma sR1 ∨ sm = .dma sR2) then {false} else ∅

/-- The payload of a cell's duty. -/
def ringPay (c : Dev nD) (sm : SemLoc sig) (r : ℕ) (d : Bool) : sProp 𝕄 :=
  if sm = .reg barS then (if d then barPay r c else iprop(emp))
  else if sm = .dma sR0 then recvPay0 m ρ c
  else if sm = .dma sR1 then recvPay1 m ρ c
  else if sm = .dma sR2 then recvPay2 m ρ c
  else if sm = .dma sS0 then slot0 c (acc0 m ρ c)
  else if sm = .dma sS1 then slot1 c (acc1 m ρ c)
  else if sm = .dma sS2 then slot0 c (acc2 m ρ c)
  else iprop(emp)

instance ringPay_storable (c : Dev nD) (sm : SemLoc sig) (r : ℕ) (d : Bool) :
    BI.Storable (upEmb : UEmb _ 𝕄) (ringPay (F := F) m ρ c sm r d) := by
  unfold ringPay barPay recvPay0 recvPay1 recvPay2
  (repeat' split) <;> infer_instance

/-- The ring's schedule. -/
def ringRd : Rounds.Schedule (GSem nD τ sig) Bool 𝕄 where
  duties g r := if g.1.2 = .tc then ringDuties g.2 r else ∅
  unitless _ := False
  amount g _ _ := if g.2 = .reg barS then 1 else N
  payload g r d := ringPay m ρ g.1.1 g.2 r d
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m ρ).payload g r d) := ringPay_storable m ρ g.1.1 g.2 r d

section Sched
variable (c : Dev nD)

theorem dma_ne_bar (q : DmaSem sig) : (SemLoc.dma q : SemLoc sig) ≠ .reg barS := fun h => by cases h

theorem ringDuties_bar (r : ℕ) : ringDuties (.reg barS) r = if r = 0 then Finset.univ else if r = 1 ∨ r = 2 then {true} else ∅ := if_pos rfl
theorem ringDuties_dma (q : DmaSem sig)
    (hq : (SemLoc.dma q : SemLoc sig) = .dma sS0 ∨ (SemLoc.dma q : SemLoc sig) = .dma sS1 ∨ (SemLoc.dma q : SemLoc sig) = .dma sS2
      ∨ (SemLoc.dma q : SemLoc sig) = .dma sR0 ∨ (SemLoc.dma q : SemLoc sig) = .dma sR1 ∨ (SemLoc.dma q : SemLoc sig) = .dma sR2) :
    ringDuties (.dma q) 0 = {false} := by
  unfold ringDuties; rw [if_neg (dma_ne_bar q), if_pos ⟨rfl, hq⟩]

theorem duties_bar0 : (ringRd (F := F) m ρ).duties (barCell c) 0 = Finset.univ := by
  dsimp only [ringRd]; rw [if_pos rfl, ringDuties_bar, if_pos rfl]
theorem duties_bar1 : (ringRd (F := F) m ρ).duties (barCell c) 1 = {true} := by
  dsimp only [ringRd]; rw [if_pos rfl, ringDuties_bar, if_neg (by decide), if_pos (by decide)]
theorem duties_bar2 : (ringRd (F := F) m ρ).duties (barCell c) 2 = {true} := by
  dsimp only [ringRd]; rw [if_pos rfl, ringDuties_bar, if_neg (by decide), if_pos (by decide)]
theorem duties_dma (q : DmaSem sig)
    (hq : (SemLoc.dma q : SemLoc sig) = .dma sS0 ∨ (SemLoc.dma q : SemLoc sig) = .dma sS1 ∨ (SemLoc.dma q : SemLoc sig) = .dma sS2
      ∨ (SemLoc.dma q : SemLoc sig) = .dma sR0 ∨ (SemLoc.dma q : SemLoc sig) = .dma sR1 ∨ (SemLoc.dma q : SemLoc sig) = .dma sR2) :
    (ringRd (F := F) m ρ).duties (cell c q) 0 = {false} := by
  dsimp only [ringRd]; rw [if_pos rfl, ringDuties_dma q hq]

theorem duties_bar_later : ∀ r, 3 ≤ r → (ringRd (F := F) m ρ).duties (barCell c) r = ∅ := fun r hr => by
  dsimp only [ringRd]; rw [if_pos rfl, ringDuties_bar, if_neg (by omega), if_neg (by omega)]
theorem duties_dma_later (q : DmaSem sig) : ∀ r, 1 ≤ r → (ringRd (F := F) m ρ).duties (cell c q) r = ∅ := fun r hr => by
  dsimp only [ringRd]; rw [if_pos rfl]; unfold ringDuties; rw [if_neg (dma_ne_bar q), if_neg (fun h => by omega)]

theorem amount_bar (r : ℕ) (d : Bool) : (ringRd (F := F) m ρ).amount (barCell c) r d = 1 := by dsimp only [ringRd]; exact if_pos rfl
theorem amount_dma (q : DmaSem sig) (r : ℕ) (d : Bool) : (ringRd (F := F) m ρ).amount (cell c q) r d = N := by
  dsimp only [ringRd]; exact if_neg (dma_ne_bar q)

theorem expect_bar0 : (ringRd (F := F) m ρ).expect (barCell c) 0 = 2 := by
  unfold Schedule.expect Schedule.amountOf
  rw [duties_bar0, Finset.sum_congr rfl fun d _ => amount_bar m ρ c 0 d, Finset.sum_const, Finset.card_univ, Fintype.card_bool, smul_eq_mul]
theorem expect_bar1 : (ringRd (F := F) m ρ).expect (barCell c) 1 = 1 := by
  unfold Schedule.expect Schedule.amountOf; rw [duties_bar1, Finset.sum_singleton, amount_bar]
theorem expect_bar2 : (ringRd (F := F) m ρ).expect (barCell c) 2 = 1 := by
  unfold Schedule.expect Schedule.amountOf; rw [duties_bar2, Finset.sum_singleton, amount_bar]
theorem expect_dma (q : DmaSem sig)
    (hq : (SemLoc.dma q : SemLoc sig) = .dma sS0 ∨ (SemLoc.dma q : SemLoc sig) = .dma sS1 ∨ (SemLoc.dma q : SemLoc sig) = .dma sS2
      ∨ (SemLoc.dma q : SemLoc sig) = .dma sR0 ∨ (SemLoc.dma q : SemLoc sig) = .dma sR1 ∨ (SemLoc.dma q : SemLoc sig) = .dma sR2) :
    (ringRd (F := F) m ρ).expect (cell c q) 0 = N := by
  unfold Schedule.expect Schedule.amountOf; rw [duties_dma m ρ c q hq, Finset.sum_singleton, amount_dma]

theorem payload_bar_true (r : ℕ) : (ringRd (F := F) m ρ).payload (barCell c) r true = barPay r c := by
  dsimp only [ringRd]; unfold ringPay; rw [if_pos rfl, if_pos rfl]
theorem payload_bar_false (r : ℕ) : (ringRd (F := F) m ρ).payload (barCell c) r false = iprop(emp) := by
  dsimp only [ringRd]; unfold ringPay; rw [if_pos rfl]; exact if_neg Bool.false_ne_true
theorem payload_R0 (d : Bool) : (ringRd (F := F) m ρ).payload (cell c sR0) 0 d = recvPay0 m ρ c := by
  dsimp only [ringRd]; unfold ringPay; rw [if_neg (by decide), if_pos rfl]
theorem payload_R1 (d : Bool) : (ringRd (F := F) m ρ).payload (cell c sR1) 0 d = recvPay1 m ρ c := by
  dsimp only [ringRd]; unfold ringPay; rw [if_neg (by decide), if_neg (by decide), if_pos rfl]
theorem payload_R2 (d : Bool) : (ringRd (F := F) m ρ).payload (cell c sR2) 0 d = recvPay2 m ρ c := by
  dsimp only [ringRd]; unfold ringPay; rw [if_neg (by decide), if_neg (by decide), if_neg (by decide), if_pos rfl]
theorem payload_S0 (d : Bool) : (ringRd (F := F) m ρ).payload (cell c sS0) 0 d = slot0 c (acc0 m ρ c) := by
  dsimp only [ringRd]; unfold ringPay; rw [if_neg (by decide), if_neg (by decide), if_neg (by decide), if_neg (by decide), if_pos rfl]
theorem payload_S1 (d : Bool) : (ringRd (F := F) m ρ).payload (cell c sS1) 0 d = slot1 c (acc1 m ρ c) := by
  dsimp only [ringRd]; unfold ringPay; rw [if_neg (by decide), if_neg (by decide), if_neg (by decide), if_neg (by decide), if_neg (by decide), if_pos rfl]
theorem payload_S2 (d : Bool) : (ringRd (F := F) m ρ).payload (cell c sS2) 0 d = slot0 c (acc2 m ρ c) := by
  dsimp only [ringRd]; unfold ringPay
  rw [if_neg (by decide), if_neg (by decide), if_neg (by decide), if_neg (by decide), if_neg (by decide), if_neg (by decide), if_pos rfl]

/-- What a barrier wait takes over, round by round. -/
theorem rest_bar0 : bigSep ((ringRd (F := F) m ρ).duties (barCell c) 0 \ ∅) (fun d => (ringRd (F := F) m ρ).payload (barCell c) 0 d)
    = iprop(emp ∗ (∃ X, slot1 (nxt c) X)) := by
  rw [Finset.sdiff_empty, duties_bar0, bigSep_univ_eq_bigSepL [false, true] (by decide) (by decide), bigSepL_cons_cons, bigSepL_singleton,
    payload_bar_false, payload_bar_true]
  unfold barPay; rw [if_neg (by decide)]; rfl
theorem rest_bar1 : bigSep ((ringRd (F := F) m ρ).duties (barCell c) 1 \ ∅) (fun d => (ringRd (F := F) m ρ).payload (barCell c) 1 d)
    = iprop(∃ X, slot0 (nxt c) X) := by
  rw [Finset.sdiff_empty, duties_bar1, bigSep_singleton, payload_bar_true]; unfold barPay; rw [if_pos rfl]
theorem rest_bar2 : bigSep ((ringRd (F := F) m ρ).duties (barCell c) 2 \ ∅) (fun d => (ringRd (F := F) m ρ).payload (barCell c) 2 d)
    = iprop(∃ X, slot1 (nxt c) X) := by
  rw [Finset.sdiff_empty, duties_bar2, bigSep_singleton, payload_bar_true]; unfold barPay; rw [if_neg (by decide)]
/-- What a wait on a send or receive cell takes over. -/
theorem rest_dma (q : DmaSem sig)
    (hq : (SemLoc.dma q : SemLoc sig) = .dma sS0 ∨ (SemLoc.dma q : SemLoc sig) = .dma sS1 ∨ (SemLoc.dma q : SemLoc sig) = .dma sS2
      ∨ (SemLoc.dma q : SemLoc sig) = .dma sR0 ∨ (SemLoc.dma q : SemLoc sig) = .dma sR1 ∨ (SemLoc.dma q : SemLoc sig) = .dma sR2) :
    bigSep ((ringRd (F := F) m ρ).duties (cell c q) 0 \ ∅) (fun d => (ringRd (F := F) m ρ).payload (cell c q) 0 d)
      = (ringRd (F := F) m ρ).payload (cell c q) 0 false := by
  rw [Finset.sdiff_empty, duties_dma m ρ c q hq, bigSep_singleton]

end Sched

/-! ## What each device owes at launch; the levels -/

/-- What device `c` still owes, from the third hop backwards: the last copy; the second credit; the second copy; the
    first credit; the first copy; the right and the left neighbour's barrier unit. -/
def O₆ (c : Dev nD) : CellTallies nD τ sig ℕ := tallyAt (cell (nxt c) sR2) 0 N
def O₅ (c : Dev nD) : CellTallies nD τ sig ℕ := O₆ c + tallyAt (barCell (prv c)) 2 1
def O₄ (c : Dev nD) : CellTallies nD τ sig ℕ := O₅ c + tallyAt (cell (nxt c) sR1) 0 N
def O₃ (c : Dev nD) : CellTallies nD τ sig ℕ := O₄ c + tallyAt (barCell (prv c)) 1 1
def O₂ (c : Dev nD) : CellTallies nD τ sig ℕ := O₃ c + tallyAt (cell (nxt c) sR0) 0 N
def O₁ (c : Dev nD) : CellTallies nD τ sig ℕ := O₂ c + tallyAt (barCell (nxt c)) 0 1
def O₀ (c : Dev nD) : CellTallies nD τ sig ℕ := O₁ c + tallyAt (barCell (prv c)) 0 1

def L (g : GSem nD τ sig) : Finset ℕ := if g.1.2 = .tc then {0, 1, 2} else ∅
/-- Round `r` of a barrier cell at `2r + 1`; the receive cells at 2, 4, 6; everything else at 0. -/
def lv (g : GSem nD τ sig) (r : ℕ) : ℕ :=
  if g.2 = .reg barS then 2 * r + 1 else if g.2 = .dma sR0 then 2 else if g.2 = .dma sR1 then 4 else if g.2 = .dma sR2 then 6 else 0

theorem L_of_ne (g : GSem nD τ sig) (h : g.1.2 ≠ .tc) : L g = ∅ := if_neg h
theorem L_tc (c : Dev nD) (sm : SemLoc sig) : L ((c : Thread nD τ), sm) = {0, 1, 2} := if_pos rfl

theorem lv_bar (c : Dev nD) (r : ℕ) : lv (barCell c) r = 2 * r + 1 := if_pos rfl
theorem lv_R0 (c : Dev nD) (r : ℕ) : lv (cell c sR0) r = 2 := by unfold lv; rw [if_neg (dma_ne_bar _), if_pos rfl]
theorem lv_R1 (c : Dev nD) (r : ℕ) : lv (cell c sR1) r = 4 := by unfold lv; rw [if_neg (dma_ne_bar _), if_neg (show SemLoc.dma sR1 ≠ .dma sR0 by decide), if_pos rfl]
theorem lv_R2 (c : Dev nD) (r : ℕ) : lv (cell c sR2) r = 6 := by
  unfold lv; rw [if_neg (dma_ne_bar _), if_neg (show SemLoc.dma sR2 ≠ .dma sR0 by decide), if_neg (show SemLoc.dma sR2 ≠ .dma sR1 by decide), if_pos rfl]
theorem lv_low (c : Dev nD) (q : DmaSem sig) (h0 : SemLoc.dma q ≠ .dma sR0) (h1 : SemLoc.dma q ≠ .dma sR1) (h2 : SemLoc.dma q ≠ .dma sR2) (r : ℕ) :
    lv (cell c q) r = 0 := by
  unfold lv; rw [if_neg (dma_ne_bar _), if_neg h0, if_neg h1, if_neg h2]

/-- Every due of `O` lies on an index with a level, above `n`. -/
def Above (n : ℕ) (O : CellTallies nD τ sig ℕ) : Prop := ∀ (g : GSem nD τ sig) (i : ℕ), 0 < O g i → i ∈ L g ∧ n < lv g i

theorem Above.mono {n k : ℕ} {O : CellTallies nD τ sig ℕ} (h : Above n O) (hk : k ≤ n) : Above k O :=
  fun g i hg => ⟨(h g i hg).1, lt_of_le_of_lt hk (h g i hg).2⟩
theorem Above.tally {n : ℕ} {c : Dev nD} {sm : SemLoc sig} {r k : ℕ} (hr : r ∈ ({0, 1, 2} : Finset ℕ)) (h : n < lv ((c : Thread nD τ), sm) r) :
    Above n (tallyAt ((c : Thread nD τ), sm) r k) := fun g i hg => by
  obtain ⟨rfl, rfl⟩ := Pipeline.tallyAt_pos hg
  exact ⟨by rw [L_tc]; exact hr, h⟩
theorem Above.add {n : ℕ} {O D : CellTallies nD τ sig ℕ} (h : Above n O) (h' : Above n D) : Above n (O + D) := fun g i hg =>
  (Pipeline.add_pos_cases hg).elim (h g i) (h' g i)

theorem above6 (c : Dev nD) : Above 5 (O₆ c) := Above.tally (by decide) (by rw [lv_R2]; decide)
theorem above5 (c : Dev nD) : Above 4 (O₅ c) := ((above6 c).mono (by decide)).add (Above.tally (by decide) (by rw [lv_bar]; decide))
theorem above4 (c : Dev nD) : Above 3 (O₄ c) := ((above5 c).mono (by decide)).add (Above.tally (by decide) (by rw [lv_R1]; decide))
theorem above3 (c : Dev nD) : Above 2 (O₃ c) := ((above4 c).mono (by decide)).add (Above.tally (by decide) (by rw [lv_bar]; decide))
theorem above2 (c : Dev nD) : Above 1 (O₂ c) := ((above3 c).mono (by decide)).add (Above.tally (by decide) (by rw [lv_R0]; decide))
theorem above0 (c : Dev nD) : Above 0 (O₀ c) :=
  (((above2 c).mono (by decide)).add (Above.tally (by decide) (by rw [lv_bar]; decide))).add (Above.tally (by decide) (by rw [lv_bar]; decide))

omit [FloatOps F] in
/-- A wait may be entered while every due outstanding lies above it. -/
theorem mayWait (c : Dev nD) (sm : SemLoc sig) (r n : ℕ) (O : CellTallies nD τ sig ℕ) (hr : r ∈ ({0, 1, 2} : Finset ℕ))
    (hn : lv ((c : Thread nD τ), sm) r ≤ n) (hO : Above n O) : (levAts L lv : sProp 𝕄) ⊢ MayWait (c : Thread nD τ) sm r O :=
  Pipeline.mayWait_of_levAts (by rw [L_tc]; exact hr) fun g i hg => ⟨(hO g i hg).1, lt_of_le_of_lt hn (hO g i hg).2⟩

/-! ## The pipeline's proof data -/

/-- The cells' invariants device `c`'s body opens: its own seven, both neighbours' barrier cells, the right
    neighbour's receive cells. -/
def invs (K : Dev nD × Fin 7 → ℕ) (c : Dev nD) : sProp 𝕄 :=
  iprop(cellInv ER (ringRd m ρ) (K (c, 0)) (barCell c)
    ∗ cellInv ER (ringRd m ρ) (K (c, 1)) (cell c sS0) ∗ cellInv ER (ringRd m ρ) (K (c, 2)) (cell c sS1) ∗ cellInv ER (ringRd m ρ) (K (c, 3)) (cell c sS2)
    ∗ cellInv ER (ringRd m ρ) (K (c, 4)) (cell c sR0) ∗ cellInv ER (ringRd m ρ) (K (c, 5)) (cell c sR1) ∗ cellInv ER (ringRd m ρ) (K (c, 6)) (cell c sR2)
    ∗ cellInv ER (ringRd m ρ) (K (nxt c, 0)) (barCell (nxt c)) ∗ cellInv ER (ringRd m ρ) (K (prv c, 0)) (barCell (prv c))
    ∗ cellInv ER (ringRd m ρ) (K (nxt c, 4)) (cell (nxt c) sR0) ∗ cellInv ER (ringRd m ρ) (K (nxt c, 5)) (cell (nxt c) sR1)
    ∗ cellInv ER (ringRd m ρ) (K (nxt c, 6)) (cell (nxt c) sR2))

instance invs_persistent (K : Dev nD × Fin 7 → ℕ) (c : Dev nD) : BI.Persistent (invs m ρ K c) := by unfold invs; infer_instance

/-- The cells it pays, in round 0. -/
def marks (c : Dev nD) : sProp 𝕄 :=
  iprop(reached ER (barCell (nxt c)) 0 ∗ reached ER (barCell (prv c)) 0
    ∗ reached ER (cell c sS0) 0 ∗ reached ER (cell c sS1) 0 ∗ reached ER (cell c sS2) 0
    ∗ reached ER (cell (nxt c) sR0) 0 ∗ reached ER (cell (nxt c) sR1) 0 ∗ reached ER (cell (nxt c) sR2) 0)

omit [FloatOps F] in
instance marks_persistent (c : Dev nD) : BI.Persistent (marks (F := F) c) := by unfold marks; infer_instance

/-- Its positions at its seven cells. -/
def poss (c : Dev nD) : sProp 𝕄 :=
  iprop(atPos ER (barCell c) 0 ∅ 0 ∗ atPos ER (cell c sS0) 0 ∅ 0 ∗ atPos ER (cell c sS1) 0 ∅ 0 ∗ atPos ER (cell c sS2) 0 ∅ 0
    ∗ atPos ER (cell c sR0) 0 ∅ 0 ∗ atPos ER (cell c sR1) 0 ∅ 0 ∗ atPos ER (cell c sR2) 0 ∅ 0)

/-- The tokens of the duties it pays. -/
def payToks (c : Dev nD) : sProp 𝕄 :=
  iprop(dutyTok ER (barCell (nxt c)) 0 false ∗ dutyTok ER (barCell (prv c)) 0 true ∗ dutyTok ER (barCell (prv c)) 1 true ∗ dutyTok ER (barCell (prv c)) 2 true
    ∗ dutyTok ER (cell c sS0) 0 false ∗ dutyTok ER (cell c sS1) 0 false ∗ dutyTok ER (cell c sS2) 0 false
    ∗ dutyTok ER (cell (nxt c) sR0) 0 false ∗ dutyTok ER (cell (nxt c) sR1) 0 false ∗ dutyTok ER (cell (nxt c) sR2) 0 false)

/-- The ghost state device `c` starts from. -/
def ghost (K : Dev nD × Fin 7 → ℕ) (c : Dev nD) : sProp 𝕄 := iprop(invs m ρ K c ∗ marks c ∗ poss c ∗ payToks c)

/-- The credit of its waits on others' payments. -/
def creds (c : Dev nD) : sProp 𝕄 :=
  iprop(cred (tallyAt (barCell c) 0 2) ∗ cred (tallyAt (barCell c) 1 1) ∗ cred (tallyAt (barCell c) 2 1)
    ∗ cred (tallyAt (cell c sR0) 0 N) ∗ cred (tallyAt (cell c sR1) 0 N) ∗ cred (tallyAt (cell c sR2) 0 N))

/-- What device `c`'s body starts from, at some names of the invariants. -/
def start (c : Dev nD) : sProp 𝕄 := iprop((∃ K, ghost m ρ K c) ∗ creds c ∗ levAts L lv)

def Φ₀ (c : Dev nD) : sProp 𝕄 := iprop(start m ρ c ∗ (∃ X, slot0 c X) ∗ (∃ X, slot1 c X))
/-- After the body: the two slots and the seven counters at zero. -/
def Φ₁ (c : Dev nD) : sProp 𝕄 :=
  iprop(((∃ X, slot0 c X) ∗ (∃ X, slot1 c X))
    ∗ (semVal (cell c sS0) 0 ∗ semVal (cell c sS1) 0 ∗ semVal (cell c sS2) 0 ∗ semVal (cell c sR0) 0 ∗ semVal (cell c sR1) 0 ∗ semVal (cell c sR2) 0)
    ∗ semVal (barCell c) 0)

/-- The proof data of the one launch: the staged blocks unchanged, the result `outAt`. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.RingProof

end
-- ==== Proof.Steps.lean ====
/-
# Single steps of the body

The rules the body's proof applies, one per kind of step, stated over the slots of the communication buffer:
a load and a store of a slot, the three copies to the right neighbour, and the values the stored payloads are.
-/
module

public import proofs.«01_k».proof.Proof.Protocol
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Whole buffers -/

omit [FloatOps F] in
theorem hz : (![0, 0] : Fin 2 → Nat) = fun _ => 0 := funext fun a => by fin_cases a <;> rfl

/-- The rectangle of a whole 1024 by 2048 block. -/
abbrev rw0 : Rect S1024x2048 := Rect.unit (s := S1024x2048) ![0, 0] S1024x2048.size inb_S1024x2048_S1024x2048_0_0

omit [FloatOps F] in
theorem read_w (f : (cc0_stg1_0 : Ref sig .tc).ty.Contents (Elt F)) : (wM : Memref sig .tc .vmem S1024x2048 .fp8e5m2).view.readAt (Elt F) rw0.toLoadRect f = f :=
  Memref.readAt_unit_zero (Elt F) cc0_stg1_0 hz _ f
omit [FloatOps F] in
theorem write_out (f w : (cc0_stg4_0 : Ref sig .tc).ty.Contents (Elt F)) :
    ((oM : Memref sig .tc .vmem S1024x2048 .f32).access rw0 : View sig .tc _ _ _).write (Elt F) f w Finset.univ = w :=
  Memref.write_access_unit_zero_univ (Elt F) cc0_stg4_0 hz _ f w

/-! ## The payloads -/

theorem pay3_eq (w : Vec F S1024x2048 .fp8e5m2) (x : Vec F S1024x1024 .fp8e4m3) :
    shapeCast S1024x2048 (k0_pay3 w x) shapeCasts_S1x1024x2048_S1024x2048 = mm w x := by
  unfold k0_pay3 mm; exact shapeCast_shapeCast _ _ _
theorem pay4_eq (w : Vec F S1024x2048 .fp8e5m2) (v : Vec F S1x1024x2048 .f32) (x : Vec F S1024x1024 .fp8e4m3) :
    shapeCast S1024x2048 (k0_pay4 (k0_pay2 w) v x) shapeCasts_S1x1024x2048_S1024x2048
      = addf (shapeCast S1024x2048 v shapeCasts_S1x1024x2048_S1024x2048) (mm w x) := by
  unfold k0_pay4 mm; exact shapeCast_shapeCast _ _ _
theorem pay5_eq (w : Vec F S1024x2048 .fp8e5m2) (v : Vec F S1x1024x2048 .f32) (x : Vec F S1024x1024 .fp8e4m3) :
    shapeCast S1024x2048 (k0_pay5 (k0_pay2 w) v x) shapeCasts_S1x1024x2048_S1024x2048
      = addf (shapeCast S1024x2048 v shapeCasts_S1x1024x2048_S1024x2048) (mm w x) := by
  unfold k0_pay5 mm; exact shapeCast_shapeCast _ _ _
theorem pay1_eq (w : Vec F S1024x2048 .fp8e5m2) (v : Vec F S1x1024x2048 .f32) (x : Vec F S1024x1024 .fp8e4m3) (a b : Elt F .f32) :
    k0_pay1 (k0_pay2 w) v x a b = fin1 (addf (shapeCast S1024x2048 v shapeCasts_S1x1024x2048_S1024x2048) (mm w x)) a b := rfl

/-! ## The values loaded -/

omit [FloatOps F] in
theorem read_xs0 (c : Dev nD) : (xM : Memref sig .tc .vmem S4096x1024 .fp8e4m3).view.readAt (Elt F) (rx c 3#32 (k0_off1_inb c 0)).toLoadRect (xstg m ρ c)
    = xs0 m ρ c := rfl
omit [FloatOps F] in
theorem read_xs1 (c : Dev nD) : (xM : Memref sig .tc .vmem S4096x1024 .fp8e4m3).view.readAt (Elt F) (rx c 6#32 (k0_off1_inb c 3)).toLoadRect (xstg m ρ c)
    = xs1 m ρ c := rfl
omit [FloatOps F] in
theorem read_xs2 (c : Dev nD) : (xM : Memref sig .tc .vmem S4096x1024 .fp8e4m3).view.readAt (Elt F) (rx c 5#32 (k0_off1_inb c 2)).toLoadRect (xstg m ρ c)
    = xs2 m ρ c := rfl
omit [FloatOps F] in
theorem read_xs3 (c : Dev nD) : (xM : Memref sig .tc .vmem S4096x1024 .fp8e4m3).view.readAt (Elt F) (rx c 4#32 (k0_off1_inb c 1)).toLoadRect (xstg m ρ c)
    = xs3 m ρ c := rfl

theorem mm_acc0 (c : Dev nD) : mm (wstg m ρ c) (xs0 m ρ c) = acc0 m ρ c := rfl
theorem mm_acc1 (c : Dev nD) : addf (acc0 m ρ (prv c)) (mm (wstg m ρ c) (xs1 m ρ c)) = acc1 m ρ c := rfl
theorem mm_acc2 (c : Dev nD) : addf (acc1 m ρ (prv c)) (mm (wstg m ρ c) (xs2 m ρ c)) = acc2 m ρ c := rfl

/-! ## Loads and stores of a slot -/

section Slots
variable (c : Dev nD)

omit [FloatOps F] in
theorem rc0_sub : (cM : Memref sig .tc .vmem S2x1024x2048 .f32).view.setOn rc0.set ⊆ (m0 : Memref sig .tc .vmem S1024x2048 .f32).view.set := by
  rw [View.set_reshape, View.set_slice]; exact Finset.Subset.refl _
omit [FloatOps F] in
theorem rc1_sub : (cM : Memref sig .tc .vmem S2x1024x2048 .f32).view.setOn rc1.set ⊆ (m1 : Memref sig .tc .vmem S1024x2048 .f32).view.set := by
  rw [View.set_reshape, View.set_slice]; exact Finset.Subset.refl _

theorem wp_load_slot0 (X : FVec F S1024x2048 .f32) {hl : (cM : Memref sig .tc .vmem S2x1024x2048 .f32).view.LoadsAt rc0.toLoadRect}
    {α : Type} {Q : α → sProp 𝕄} {k : Vec F S1x1024x2048 .f32 → Prog (TpuEff nD τ sig (Elt F) Λ₀ .tc) α} :
    slot0 c X ⊢ iprop((∀ v : Vec F S1x1024x2048 .f32, ⌜shapeCast S1024x2048 v shapeCasts_S1x1024x2048_S1024x2048 = X⌝ -∗ slot0 c X
          -∗ wp frame (wpE (defs₀ (F := F)) 𝒱₀ (c : Thread nD τ) none) Set.univ (k v) Q)
        -∗ wp frame (wpE (defs₀ (F := F)) 𝒱₀ (c : Thread nD τ) none) Set.univ (.op (.load cM rc0.toLoadRect hl) k) Q) := by
  unfold slot0
  iintro ⟨%f, %hf, H⟩ Hk
  iapply (wp_load 𝒱₀ (c : Thread nD τ) none Set.univ (m := cM) rc0_sub) $$ H; iintro H
  ispecialize Hk $$ %(cM.view.readAt (Elt F) rc0.toLoadRect f)
  iapply Hk $$ [] [H]
  · ipureintro; exact hf
  · iexists f; isplitr; · (ipureintro; exact hf)
    iexact H

theorem wp_load_slot1 (X : FVec F S1024x2048 .f32) {hl : (cM : Memref sig .tc .vmem S2x1024x2048 .f32).view.LoadsAt rc1.toLoadRect}
    {α : Type} {Q : α → sProp 𝕄} {k : Vec F S1x1024x2048 .f32 → Prog (TpuEff nD τ sig (Elt F) Λ₀ .tc) α} :
    slot1 c X ⊢ iprop((∀ v : Vec F S1x1024x2048 .f32, ⌜shapeCast S1024x2048 v shapeCasts_S1x1024x2048_S1024x2048 = X⌝ -∗ slot1 c X
          -∗ wp frame (wpE (defs₀ (F := F)) 𝒱₀ (c : Thread nD τ) none) Set.univ (k v) Q)
        -∗ wp frame (wpE (defs₀ (F := F)) 𝒱₀ (c : Thread nD τ) none) Set.univ (.op (.load cM rc1.toLoadRect hl) k) Q) := by
  unfold slot1
  iintro ⟨%f, %hf, H⟩ Hk
  iapply (wp_load 𝒱₀ (c : Thread nD τ) none Set.univ (m := cM) rc1_sub) $$ H; iintro H
  ispecialize Hk $$ %(cM.view.readAt (Elt F) rc1.toLoadRect f)
  iapply Hk $$ [] [H]
  · ipureintro; exact hf
  · iexists f; isplitr; · (ipureintro; exact hf)
    iexact H

omit [FloatOps F] in
theorem read_write0 (f : Buf (Elt F) ((m0 : Memref sig .tc .vmem S1024x2048 .f32).view.loc (c : Thread nD τ))) (w : Vec F S1x1024x2048 .f32) :
    (m0 : Memref sig .tc .vmem S1024x2048 .f32).view.read (Elt F) ((cM.access rc0 : View sig .tc _ _ _).write (Elt F) f w Finset.univ)
      = shapeCast S1024x2048 w shapeCasts_S1x1024x2048_S1024x2048 := by
  show shapeCast S1024x2048 ((cM.access rc0 : View sig .tc _ _ _).read (Elt F) ((cM.access rc0 : View sig .tc _ _ _).write (Elt F) f w Finset.univ))
    shapeCasts_S1x1024x2048_S1024x2048 = _
  rw [View.read_write_univ]
omit [FloatOps F] in
theorem read_write1 (f : Buf (Elt F) ((m1 : Memref sig .tc .vmem S1024x2048 .f32).view.loc (c : Thread nD τ))) (w : Vec F S1x1024x2048 .f32) :
    (m1 : Memref sig .tc .vmem S1024x2048 .f32).view.read (Elt F) ((cM.access rc1 : View sig .tc _ _ _).write (Elt F) f w Finset.univ)
      = shapeCast S1024x2048 w shapeCasts_S1x1024x2048_S1024x2048 := by
  show shapeCast S1024x2048 ((cM.access rc1 : View sig .tc _ _ _).read (Elt F) ((cM.access rc1 : View sig .tc _ _ _).write (Elt F) f w Finset.univ))
    shapeCasts_S1x1024x2048_S1024x2048 = _
  rw [View.read_write_univ]

theorem wp_store_slot0 (X : FVec F S1024x2048 .f32) {w : Vec F S1x1024x2048 .f32} {hx : (cM.access rc0 : View sig .tc _ _ _).Stores Finset.univ}
    {hm : (Finset.univ : Finset rc0.shape.Idx) = Finset.univ ∨ ∀ a, rc0.stride a = 1}
    {α : Type} {Q : α → sProp 𝕄} {k : PUnit → Prog (TpuEff nD τ sig (Elt F) Λ₀ .tc) α} :
    slot0 c X ⊢ iprop((slot0 c (shapeCast S1024x2048 w shapeCasts_S1x1024x2048_S1024x2048)
          -∗ wp frame (wpE (defs₀ (F := F)) 𝒱₀ (c : Thread nD τ) none) Set.univ (k ⟨⟩) Q)
        -∗ wp frame (wpE (defs₀ (F := F)) 𝒱₀ (c : Thread nD τ) none) Set.univ (.op (.store cM rc0 w Finset.univ hx hm) k) Q) := by
  unfold slot0
  iintro ⟨%f, -, H⟩ Hk
  iapply (wp_store 𝒱₀ (c : Thread nD τ) none Set.univ (m := cM) (r := rc0) (Mk := Finset.univ)
    (S := (m0 : Memref sig .tc .vmem S1024x2048 .f32).view.set) (by rw [View.set_reshape]; exact Finset.Subset.refl _)) $$ H; iintro H
  iapply Hk
  iexists _; isplitr
  · ipureintro; exact read_write0 c f w
  iexact H

theorem wp_store_slot1 (X : FVec F S1024x2048 .f32) {w : Vec F S1x1024x2048 .f32} {hx : (cM.access rc1 : View sig .tc _ _ _).Stores Finset.univ}
    {hm : (Finset.univ : Finset rc1.shape.Idx) = Finset.univ ∨ ∀ a, rc1.stride a = 1}
    {α : Type} {Q : α → sProp 𝕄} {k : PUnit → Prog (TpuEff nD τ sig (Elt F) Λ₀ .tc) α} :
    slot1 c X ⊢ iprop((slot1 c (shapeCast S1024x2048 w shapeCasts_S1x1024x2048_S1024x2048)
          -∗ wp frame (wpE (defs₀ (F := F)) 𝒱₀ (c : Thread nD τ) none) Set.univ (k ⟨⟩) Q)
        -∗ wp frame (wpE (defs₀ (F := F)) 𝒱₀ (c : Thread nD τ) none) Set.univ (.op (.store cM rc1 w Finset.univ hx hm) k) Q) := by
  unfold slot1
  iintro ⟨%f, -, H⟩ Hk
  iapply (wp_store 𝒱₀ (c : Thread nD τ) none Set.univ (m := cM) (r := rc1) (Mk := Finset.univ)
    (S := (m1 : Memref sig .tc .vmem S1024x2048 .f32).view.set) (by rw [View.set_reshape]; exact Finset.Subset.refl _)) $$ H; iintro H
  iapply Hk
  iexists _; isplitr
  · ipureintro; exact read_write1 c f w
  iexact H

end Slots

/-! ## The copies -/

section Copies
variable (K : Dev nD × Fin 7 → ℕ)

/-- The first copy: slot 0 to the right neighbour's slot 1, with the word that the copier has passed round 0 of its
    barrier cell. -/
theorem wp_copy0 (c n : Dev nD) (hn : n = nxt c) {hsc : (m1 : Memref sig (Dev.tc n : Thread nD τ).2.kind .vmem S1024x2048 .f32).view.ref.isScScratch = false}
    {hsrc : (m0 : Memref sig .tc .vmem S1024x2048 .f32).view.WordExact} {hdst : (m1 : Memref sig .tc .vmem S1024x2048 .f32).view.WordExact}
    {hsem : DmaTarget.Typed .vmem (.dma sR0) (.remote (Dev.tc n : Thread nD τ) (m1 : Memref sig .tc .vmem S1024x2048 .f32) (.dma sS0) hsc)}
    {α : Type} {Q : α → sProp 𝕄} {k : PUnit → Prog (TpuEff nD τ sig (Elt F) Λ₀ .tc) α} (W : Waits sig ℕ) :
    iprop(cellInv ER (ringRd m ρ) (K (c, 1)) (cell c sS0) ∗ cellInv ER (ringRd m ρ) (K (nxt c, 4)) (cell (nxt c) sR0)
        ∗ slot0 c (acc0 m ρ c) ∗ (∃ X, slot1 (nxt c) X) ∗ reached ER (barCell c) 1
        ∗ owes (c : Thread nD τ) (O₂ c) W
        ∗ dutyTok ER (cell c sS0) 0 false ∗ reached ER (cell c sS0) 0
        ∗ dutyTok ER (cell (nxt c) sR0) 0 false ∗ reached ER (cell (nxt c) sR0) 0)
      ⊢ iprop(((cred (tallyAt (cell c sS0) 0 N) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma m0 (.remote (Dev.tc n : Thread nD τ) m1 (.dma sS0) hsc) (.dma sR0) hsrc hdst hsem) k) Q) := by
  subst hn
  unfold slot0 slot1
  iintro ⟨HI1, HI2, ⟨%fs, %hfs, Hs⟩, ⟨%X, %fd, %hX, Hd⟩, HF, HO, Ht1, Hr1, Ht2, Hr2⟩ Hk
  iapply (Rounds.wp_send_pointsTo_with 𝒱₀ ER (ringRd m ρ) (c : Thread nD τ) none (κ₁ := K (c, 1)) (κ₂ := K (nxt c, 4))
    (r₁ := 0) (r₂ := 0) (d₁ := false) (d₂ := false) (fs := fs) (fd := fd) (F := reached ER (barCell c) 1)
    (by rw [duties_dma m ρ c sS0 (by decide)]; exact Finset.mem_singleton_self _)
    (by rw [duties_dma m ρ (nxt c) sR0 (by decide)]; exact Finset.mem_singleton_self _)
    0 0 N rfl (amount_dma m ρ c sS0 0 false) (amount_dma m ρ (nxt c) sR0 0 false) (O₃ c) rfl (W := W)
    (by
      rw [payload_S0]; unfold slot0
      iintro H; iexists fs; isplitr; · (ipureintro; exact hfs)
      iexact H)
    (by
      rw [payload_R0]; unfold recvPay0 slot1; rw [prv_nxt]
      iintro ⟨H, HF⟩
      isplitl [H]
      · iexists (m1 : Memref sig .tc .vmem S1024x2048 .f32).view.write (Elt F) fd ((m0 : Memref sig .tc .vmem S1024x2048 .f32).view.read (Elt F) fs) Finset.univ; isplitr
        · ipureintro; exact (View.read_write_univ _ _).trans hfs
        iexact H
      iexact HF)) $$ [HI1 HI2 Hs Hd HF HO Ht1 Hr1 Ht2 Hr2]
  · isplitl [HI1]; · iexact HI1
    isplitl [HI2]; · iexact HI2
    isplitl [Hs]; · iexact Hs
    isplitl [Hd HF]
    · isplitl [Hd]; · iexact Hd
      iexact HF
    isplitl [HO]; · iexact HO
    isplitl [Ht1]; · iexact Ht1
    isplitl [Hr1]; · iexact Hr1
    isplitl [Ht2]; · iexact Ht2
    iexact Hr2
  iexact Hk

/-- The second copy: slot 1 to the right neighbour's slot 0. -/
theorem wp_copy1 (c n : Dev nD) (hn : n = nxt c) {hsc : (m0 : Memref sig (Dev.tc n : Thread nD τ).2.kind .vmem S1024x2048 .f32).view.ref.isScScratch = false}
    {hsrc : (m1 : Memref sig .tc .vmem S1024x2048 .f32).view.WordExact} {hdst : (m0 : Memref sig .tc .vmem S1024x2048 .f32).view.WordExact}
    {hsem : DmaTarget.Typed .vmem (.dma sR1) (.remote (Dev.tc n : Thread nD τ) (m0 : Memref sig .tc .vmem S1024x2048 .f32) (.dma sS1) hsc)}
    {α : Type} {Q : α → sProp 𝕄} {k : PUnit → Prog (TpuEff nD τ sig (Elt F) Λ₀ .tc) α} (W : Waits sig ℕ) :
    iprop(cellInv ER (ringRd m ρ) (K (c, 2)) (cell c sS1) ∗ cellInv ER (ringRd m ρ) (K (nxt c, 5)) (cell (nxt c) sR1)
        ∗ slot1 c (acc1 m ρ c) ∗ (∃ X, slot0 (nxt c) X) ∗ reached ER (barCell c) 2
        ∗ owes (c : Thread nD τ) (O₄ c) W
        ∗ dutyTok ER (cell c sS1) 0 false ∗ reached ER (cell c sS1) 0
        ∗ dutyTok ER (cell (nxt c) sR1) 0 false ∗ reached ER (cell (nxt c) sR1) 0)
      ⊢ iprop(((cred (tallyAt (cell c sS1) 0 N) ∗ owes (c : Thread nD τ) (O₅ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma m1 (.remote (Dev.tc n : Thread nD τ) m0 (.dma sS1) hsc) (.dma sR1) hsrc hdst hsem) k) Q) := by
  subst hn
  unfold slot0 slot1
  iintro ⟨HI1, HI2, ⟨%fs, %hfs, Hs⟩, ⟨%X, %fd, %hX, Hd⟩, HF, HO, Ht1, Hr1, Ht2, Hr2⟩ Hk
  iapply (Rounds.wp_send_pointsTo_with 𝒱₀ ER (ringRd m ρ) (c : Thread nD τ) none (κ₁ := K (c, 2)) (κ₂ := K (nxt c, 5))
    (r₁ := 0) (r₂ := 0) (d₁ := false) (d₂ := false) (fs := fs) (fd := fd) (F := reached ER (barCell c) 2)
    (by rw [duties_dma m ρ c sS1 (by decide)]; exact Finset.mem_singleton_self _)
    (by rw [duties_dma m ρ (nxt c) sR1 (by decide)]; exact Finset.mem_singleton_self _)
    0 0 N rfl (amount_dma m ρ c sS1 0 false) (amount_dma m ρ (nxt c) sR1 0 false) (O₅ c) rfl (W := W)
    (by
      rw [payload_S1]; unfold slot1
      iintro H; iexists fs; isplitr; · (ipureintro; exact hfs)
      iexact H)
    (by
      rw [payload_R1]; unfold recvPay1 slot0; rw [prv_nxt]
      iintro ⟨H, HF⟩
      isplitl [H]
      · iexists (m0 : Memref sig .tc .vmem S1024x2048 .f32).view.write (Elt F) fd ((m1 : Memref sig .tc .vmem S1024x2048 .f32).view.read (Elt F) fs) Finset.univ; isplitr
        · ipureintro; exact (View.read_write_univ _ _).trans hfs
        iexact H
      iexact HF)) $$ [HI1 HI2 Hs Hd HF HO Ht1 Hr1 Ht2 Hr2]
  · isplitl [HI1]; · iexact HI1
    isplitl [HI2]; · iexact HI2
    isplitl [Hs]; · iexact Hs
    isplitl [Hd HF]
    · isplitl [Hd]; · iexact Hd
      iexact HF
    isplitl [HO]; · iexact HO
    isplitl [Ht1]; · iexact Ht1
    isplitl [Hr1]; · iexact Hr1
    isplitl [Ht2]; · iexact Ht2
    iexact Hr2
  iexact Hk

/-- The third copy: slot 0 to the right neighbour's slot 1; nothing is owed afterwards. -/
theorem wp_copy2 (c n : Dev nD) (hn : n = nxt c) {hsc : (m1 : Memref sig (Dev.tc n : Thread nD τ).2.kind .vmem S1024x2048 .f32).view.ref.isScScratch = false}
    {hsrc : (m0 : Memref sig .tc .vmem S1024x2048 .f32).view.WordExact} {hdst : (m1 : Memref sig .tc .vmem S1024x2048 .f32).view.WordExact}
    {hsem : DmaTarget.Typed .vmem (.dma sR2) (.remote (Dev.tc n : Thread nD τ) (m1 : Memref sig .tc .vmem S1024x2048 .f32) (.dma sS2) hsc)}
    {α : Type} {Q : α → sProp 𝕄} {k : PUnit → Prog (TpuEff nD τ sig (Elt F) Λ₀ .tc) α} (W : Waits sig ℕ) :
    iprop(cellInv ER (ringRd m ρ) (K (c, 3)) (cell c sS2) ∗ cellInv ER (ringRd m ρ) (K (nxt c, 6)) (cell (nxt c) sR2)
        ∗ slot0 c (acc2 m ρ c) ∗ (∃ X, slot1 (nxt c) X)
        ∗ owes (c : Thread nD τ) (O₆ c) W
        ∗ dutyTok ER (cell c sS2) 0 false ∗ reached ER (cell c sS2) 0
        ∗ dutyTok ER (cell (nxt c) sR2) 0 false ∗ reached ER (cell (nxt c) sR2) 0)
      ⊢ iprop(((cred (tallyAt (cell c sS2) 0 N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma m0 (.remote (Dev.tc n : Thread nD τ) m1 (.dma sS2) hsc) (.dma sR2) hsrc hdst hsem) k) Q) := by
  subst hn
  unfold slot0 slot1
  iintro ⟨HI1, HI2, ⟨%fs, %hfs, Hs⟩, ⟨%X, %fd, %hX, Hd⟩, HO, Ht1, Hr1, Ht2, Hr2⟩ Hk
  iapply (Rounds.wp_send_pointsTo 𝒱₀ ER (ringRd m ρ) (c : Thread nD τ) none (κ₁ := K (c, 3)) (κ₂ := K (nxt c, 6))
    (r₁ := 0) (r₂ := 0) (d₁ := false) (d₂ := false) (fs := fs) (fd := fd)
    (by rw [duties_dma m ρ c sS2 (by decide)]; exact Finset.mem_singleton_self _)
    (by rw [duties_dma m ρ (nxt c) sR2 (by decide)]; exact Finset.mem_singleton_self _)
    0 0 N rfl (amount_dma m ρ c sS2 0 false) (amount_dma m ρ (nxt c) sR2 0 false) 0 (by rw [zero_add]) (W := W)
    (by
      rw [payload_S2]; unfold slot0
      iintro H; iexists fs; isplitr; · (ipureintro; exact hfs)
      iexact H)
    (by
      rw [payload_R2]; unfold recvPay2 slot1; rw [prv_nxt]
      iintro H
      iexists (m1 : Memref sig .tc .vmem S1024x2048 .f32).view.write (Elt F) fd ((m0 : Memref sig .tc .vmem S1024x2048 .f32).view.read (Elt F) fs) Finset.univ; isplitr
      · ipureintro; exact (View.read_write_univ _ _).trans hfs
      iexact H)) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

end Copies

end Cert.RingProof

end
-- ==== Proof.Body.lean ====
/-
# The body

The kernel's body, executed symbolically on device `c`, one rule per effect in program order: from the staged
operands, the device's ghost state and its two slots to the result block `outAt`, the slots and every counter at zero.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- A staging buffer of device `c` owned, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body
variable (K : Dev nD × Fin 7 → ℕ)

/-- What the body runs from, the names of the invariants chosen; -/
def bodyPre (c : Dev nD) : sProp 𝕄 :=
  iprop((ghost m ρ K c ∗ creds c ∗ levAts L lv ∗ (∃ X, slot0 c X) ∗ (∃ X, slot1 c X))
    ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- what it leaves. -/
def bodyPost (c : Dev nD) : sProp 𝕄 :=
  iprop(Φ₁ c ∗ (dats m ρ 0 c).owesAt 0 t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

set_option maxRecDepth 4000 in
set_option maxHeartbeats 4000000 in
/-- The body runs from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, smemLoad, smemLoadElt, Prog.lift, Prog.bind_op, Prog.bind_ret, Prog.pure_eq_ret, wp_deviceId]
  unfold bodyPre ghost invs marks poss payToks creds
  iintro ⟨⟨⟨⟨⟨#HIB, #HIS0, #HIS1, #HIS2, #HIR0, #HIR1, #HIR2, #HIBN, #HIBP, #HIRN0, #HIRN1, #HIRN2⟩,
    ⟨#HmBN, #HmBP, #HmS0, #HmS1, #HmS2, #HmRN0, #HmRN1, #HmRN2⟩,
    ⟨HpB, HpS0, HpS1, HpS2, HpR0, HpR1, HpR2⟩,
    ⟨HtBN, HtBP0, HtBP1, HtBP2, HtS0, HtS1, HtS2, HtRN0, HtRN1, HtRN2⟩⟩,
    ⟨HcB0, HcB1, HcB2, HcR0, HcR1, HcR2⟩, #Hlev, ⟨%X0, Hs0⟩, Hs1⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  have hsx : g2 = sxstg m ρ c := by rw [hg2]; unfold Dat.before; rw [if_pos (fetch0_2 t0_0)]; rfl
  have hsw : g3 = swstg m ρ c := by rw [hg3]; unfold Dat.before; rw [if_pos (fetch0_3 t0_0)]; rfl
  subst hx hw hsx hsw
  unfold Dat.owesAt Pipeline.owesWithin
  icases Ho with ⟨%W, %hW, HO⟩
  rw [show (dats m ρ 0 c).owed t0_0.castSucc = O₀ c from rfl]
  simp only [dev1_eq c, dev2_eq c, dev4_eq c, dev6_eq c]
  -- the first signal, to the left neighbour: it hands over slot 1
  iapply (Rounds.wp_signal 𝒱₀ ER (ringRd m ρ) (c : Thread nD τ) none (dst := (prv c : Thread nD τ)) (κ := K (prv c, 0))
      (d := true) (by rw [duties_bar0]; exact Finset.mem_univ _) ((amount_bar m ρ (prv c) 0 true).trans (by decide)) 0 (O₁ c) rfl)
    $$ [HO HtBP0 Hs1]
  · isplitr; · iexact HIBP
    isplitl [HO]; · iexact HO
    isplitl [HtBP0]; · iexact HtBP0
    isplitl [Hs1]; · rw [payload_bar_true]; unfold barPay; rw [if_neg (by decide), nxt_prv]; iexact Hs1
    iexact HmBP
  iintro HO
  -- the second, to the right neighbour: nothing handed over
  iapply (Rounds.wp_signal 𝒱₀ ER (ringRd m ρ) (c : Thread nD τ) none (dst := (nxt c : Thread nD τ)) (κ := K (nxt c, 0))
      (d := false) (by rw [duties_bar0]; exact Finset.mem_univ _) ((amount_bar m ρ (nxt c) 0 false).trans (by decide)) 0 (O₂ c) rfl)
    $$ [HO HtBN]
  · isplitr; · iexact HIBN
    isplitl [HO]; · iexact HO
    isplitl [HtBN]; · iexact HtBN
    isplitr; · rw [payload_bar_false]; iempintro
    iexact HmBN
  iintro HO
  -- the wait for both neighbours: the right neighbour's slot 1 comes with it
  iapply (Rounds.wp_wait_rest_token 𝒱₀ ER (ringRd m ρ) (c : Thread nD τ) none (κ := K (c, 0))
      (wpE_semWait_eq 𝒱₀ (c : Thread nD τ) none Set.univ) (Set.mem_univ _) 0 (O := O₂ c) (W := W) (R := 0) (m := 0) (T := ∅)
      (by rw [expect_bar0]; decide)) $$ [HcB0 HO HpB]
  · isplitr; · iexact HIB
    isplitl [HcB0]; · iexact HcB0
    isplitl [HO]; · iexact HO
    isplitr; · iapply (mayWait c (.reg barS) 0 1 (O₂ c) (by decide) (by rw [lv_bar]) (above2 c)); iexact Hlev
    iexact HpB
  iintro ⟨HO, HpB, #HB1, Hpay⟩
  ihave Hpay := (Entails.of_eq (rest_bar0 m ρ c)) $$ Hpay
  icases Hpay with ⟨-, HN1⟩
  generalize (insert (SemLoc.reg barS, 0) W : Waits sig ℕ) = W1
  -- the first partial product, stored in slot 0
  iapply (wp_load 𝒱₀ (c : Thread nD τ) none Set.univ (m := wM) (Finset.subset_univ _)) $$ Hw; iintro Hw
  rw [read_w]
  iapply (wp_load 𝒱₀ (c : Thread nD τ) none Set.univ (m := xM) (Finset.subset_univ _)) $$ Hx; iintro Hx
  iapply (wp_load_slot0 c _) $$ Hs0
  iintro %v0 %hv0 Hs0
  iapply (wp_store_slot0 c _) $$ Hs0
  iintro Hs0
  rw [read_xs0, pay3_eq, mm_acc0]
  -- copy number 0
  iapply (wp_copy0 m ρ K c _ (dev3_eq c) W1) $$ [Hs0 HN1 HO HtS0 HtRN0]
  · isplitr; · iexact HIS0
    isplitr; · iexact HIRN0
    isplitl [Hs0]; · iexact Hs0
    isplitl [HN1]; · iexact HN1
    isplitr; · iexact HB1
    isplitl [HO]; · iexact HO
    isplitl [HtS0]; · iexact HtS0
    isplitr; · iexact HmS0
    isplitl [HtRN0]; · iexact HtRN0
    iexact HmRN0
  iintro ⟨HcS0, HO⟩
  -- the wait for its departure: slot 0 is back
  iapply (Rounds.wp_wait_rest_token 𝒱₀ ER (ringRd m ρ) (c : Thread nD τ) none (κ := K (c, 1))
      (wpE_waitDma2_eq 𝒱₀ (c : Thread nD τ) none Set.univ) (Set.mem_univ _) 0 (O := O₃ c) (W := W1) (R := 0) (m := 0) (T := ∅)
      (by rw [Nat.zero_add, expect_dma m ρ c sS0 (by decide)])) $$ [HcS0 HO HpS0]
  · isplitr; · iexact HIS0
    isplitl [HcS0]; · iexact HcS0
    isplitl [HO]; · iexact HO
    isplitr; · iapply (mayWait c (.dma sS0) 0 2 (O₃ c) (by decide) (by rw [lv_low c sS0 (by decide) (by decide) (by decide)]; decide) (above3 c)); iexact Hlev
    iexact HpS0
  iintro ⟨HO, HpS0, -, Hpay⟩
  ihave Hpay := (Entails.of_eq ((rest_dma m ρ c sS0 (by decide)).trans (payload_S0 m ρ c false))) $$ Hpay
  irename Hpay => Hs0
  generalize (insert (SemLoc.dma sS0, 0) W1 : Waits sig ℕ) = W2
  -- the wait for the arrival: slot 1 holds the left neighbour's partial sum
  iapply (Rounds.wp_wait_rest_token 𝒱₀ ER (ringRd m ρ) (c : Thread nD τ) none (κ := K (c, 4))
      (wpE_waitDma2_eq 𝒱₀ (c : Thread nD τ) none Set.univ) (Set.mem_univ _) 0 (O := O₃ c) (W := W2) (R := 0) (m := 0) (T := ∅)
      (by rw [Nat.zero_add, expect_dma m ρ c sR0 (by decide)])) $$ [HcR0 HO HpR0]
  · isplitr; · iexact HIR0
    isplitl [HcR0]; · iexact HcR0
    isplitl [HO]; · iexact HO
    isplitr; · iapply (mayWait c (.dma sR0) 0 2 (O₃ c) (by decide) (by rw [lv_R0]) (above3 c)); iexact Hlev
    iexact HpR0
  iintro ⟨HO, HpR0, -, Hpay⟩
  ihave Hpay := (Entails.of_eq ((rest_dma m ρ c sR0 (by decide)).trans (payload_R0 m ρ c false))) $$ Hpay
  unfold recvPay0
  icases Hpay with ⟨Hs1, #HPB1⟩
  generalize (insert (SemLoc.dma sR0, 0) W2 : Waits sig ℕ) = W3
  -- the first credit, to the left neighbour: it hands over slot 0
  iapply (Rounds.wp_signal 𝒱₀ ER (ringRd m ρ) (c : Thread nD τ) none (dst := (prv c : Thread nD τ)) (κ := K (prv c, 0))
      (d := true) (by rw [duties_bar1]; exact Finset.mem_singleton_self _) ((amount_bar m ρ (prv c) 1 true).trans (by decide)) 1 (O₄ c) rfl)
    $$ [HO HtBP1 Hs0]
  · isplitr; · iexact HIBP
    isplitl [HO]; · iexact HO
    isplitl [HtBP1]; · iexact HtBP1
    isplitl [Hs0]; · rw [payload_bar_true]; unfold barPay; rw [if_pos rfl, nxt_prv]; iexists _; iexact Hs0
    iexact HPB1
  iintro HO
  -- the second partial product, added to slot 1
  iapply (wp_load_slot1 c _) $$ Hs1
  iintro %v1 %hv1 Hs1
  iapply (wp_load 𝒱₀ (c : Thread nD τ) none Set.univ (m := xM) (Finset.subset_univ _)) $$ Hx; iintro Hx
  iapply (wp_load_slot1 c _) $$ Hs1
  iintro %v1' %hv1' Hs1
  iapply (wp_store_slot1 c _) $$ Hs1
  iintro Hs1
  rw [read_xs1, pay4_eq, hv1, mm_acc1]
  -- the wait for the right neighbour's first credit: its slot 0 comes with it
  iapply (Rounds.wp_wait_rest_token 𝒱₀ ER (ringRd m ρ) (c : Thread nD τ) none (κ := K (c, 0))
      (wpE_semWait_eq 𝒱₀ (c : Thread nD τ) none Set.univ) (Set.mem_univ _) 1 (O := O₄ c) (W := W3) (R := 1) (m := 0) (T := ∅)
      (by rw [expect_bar1]; decide)) $$ [HcB1 HO HpB]
  · isplitr; · iexact HIB
    isplitl [HcB1]; · iexact HcB1
    isplitl [HO]; · iexact HO
    isplitr; · iapply (mayWait c (.reg barS) 1 3 (O₄ c) (by decide) (by rw [lv_bar]) (above4 c)); iexact Hlev
    iexact HpB
  iintro ⟨HO, HpB, #HB2, Hpay⟩
  ihave Hpay := (Entails.of_eq (rest_bar1 m ρ c)) $$ Hpay
  irename Hpay => HN0
  generalize (insert (SemLoc.reg barS, 1) W3 : Waits sig ℕ) = W4
  -- copy number 1
  iapply (wp_copy1 m ρ K c _ (dev5_eq c) W4) $$ [Hs1 HN0 HO HtS1 HtRN1]
  · isplitr; · iexact HIS1
    isplitr; · iexact HIRN1
    isplitl [Hs1]; · iexact Hs1
    isplitl [HN0]; · iexact HN0
    isplitr; · iexact HB2
    isplitl [HO]; · iexact HO
    isplitl [HtS1]; · iexact HtS1
    isplitr; · iexact HmS1
    isplitl [HtRN1]; · iexact HtRN1
    iexact HmRN1
  iintro ⟨HcS1, HO⟩
  -- the wait for its departure: slot 1 is back
  iapply (Rounds.wp_wait_rest_token 𝒱₀ ER (ringRd m ρ) (c : Thread nD τ) none (κ := K (c, 2))
      (wpE_waitDma2_eq 𝒱₀ (c : Thread nD τ) none Set.univ) (Set.mem_univ _) 0 (O := O₅ c) (W := W4) (R := 0) (m := 0) (T := ∅)
      (by rw [Nat.zero_add, expect_dma m ρ c sS1 (by decide)])) $$ [HcS1 HO HpS1]
  · isplitr; · iexact HIS1
    isplitl [HcS1]; · iexact HcS1
    isplitl [HO]; · iexact HO
    isplitr; · iapply (mayWait c (.dma sS1) 0 4 (O₅ c) (by decide) (by rw [lv_low c sS1 (by decide) (by decide) (by decide)]; decide) (above5 c)); iexact Hlev
    iexact HpS1
  iintro ⟨HO, HpS1, -, Hpay⟩
  ihave Hpay := (Entails.of_eq ((rest_dma m ρ c sS1 (by decide)).trans (payload_S1 m ρ c false))) $$ Hpay
  irename Hpay => Hs1
  generalize (insert (SemLoc.dma sS1, 0) W4 : Waits sig ℕ) = W5
  -- the wait for the arrival: slot 0 holds the left neighbour's partial sum
  iapply (Rounds.wp_wait_rest_token 𝒱₀ ER (ringRd m ρ) (c : Thread nD τ) none (κ := K (c, 5))
      (wpE_waitDma2_eq 𝒱₀ (c : Thread nD τ) none Set.univ) (Set.mem_univ _) 0 (O := O₅ c) (W := W5) (R := 0) (m := 0) (T := ∅)
      (by rw [Nat.zero_add, expect_dma m ρ c sR1 (by decide)])) $$ [HcR1 HO HpR1]
  · isplitr; · iexact HIR1
    isplitl [HcR1]; · iexact HcR1
    isplitl [HO]; · iexact HO
    isplitr; · iapply (mayWait c (.dma sR1) 0 4 (O₅ c) (by decide) (by rw [lv_R1]) (above5 c)); iexact Hlev
    iexact HpR1
  iintro ⟨HO, HpR1, -, Hpay⟩
  ihave Hpay := (Entails.of_eq ((rest_dma m ρ c sR1 (by decide)).trans (payload_R1 m ρ c false))) $$ Hpay
  unfold recvPay1
  icases Hpay with ⟨Hs0, #HPB2⟩
  generalize (insert (SemLoc.dma sR1, 0) W5 : Waits sig ℕ) = W6
  -- the second credit, to the left neighbour: it hands over slot 1
  iapply (Rounds.wp_signal 𝒱₀ ER (ringRd m ρ) (c : Thread nD τ) none (dst := (prv c : Thread nD τ)) (κ := K (prv c, 0))
      (d := true) (by rw [duties_bar2]; exact Finset.mem_singleton_self _) ((amount_bar m ρ (prv c) 2 true).trans (by decide)) 2 (O₆ c) rfl)
    $$ [HO HtBP2 Hs1]
  · isplitr; · iexact HIBP
    isplitl [HO]; · iexact HO
    isplitl [HtBP2]; · iexact HtBP2
    isplitl [Hs1]; · rw [payload_bar_true]; unfold barPay; rw [if_neg (by decide), nxt_prv]; iexists _; iexact Hs1
    iexact HPB2
  iintro HO
  -- the third partial product, added to slot 0
  iapply (wp_load_slot0 c _) $$ Hs0
  iintro %v2 %hv2 Hs0
  iapply (wp_load 𝒱₀ (c : Thread nD τ) none Set.univ (m := xM) (Finset.subset_univ _)) $$ Hx; iintro Hx
  iapply (wp_load_slot0 c _) $$ Hs0
  iintro %v2' %hv2' Hs0
  iapply (wp_store_slot0 c _) $$ Hs0
  iintro Hs0
  rw [read_xs2, pay5_eq, hv2, mm_acc2]
  -- the wait for the right neighbour's second credit: its slot 1 comes with it
  iapply (Rounds.wp_wait_rest_token 𝒱₀ ER (ringRd m ρ) (c : Thread nD τ) none (κ := K (c, 0))
      (wpE_semWait_eq 𝒱₀ (c : Thread nD τ) none Set.univ) (Set.mem_univ _) 2 (O := O₆ c) (W := W6) (R := 2) (m := 0) (T := ∅)
      (by rw [expect_bar2]; decide)) $$ [HcB2 HO HpB]
  · isplitr; · iexact HIB
    isplitl [HcB2]; · iexact HcB2
    isplitl [HO]; · iexact HO
    isplitr; · iapply (mayWait c (.reg barS) 2 5 (O₆ c) (by decide) (by rw [lv_bar]) (above6 c)); iexact Hlev
    iexact HpB
  iintro ⟨HO, HpB, -, Hpay⟩
  ihave Hpay := (Entails.of_eq (rest_bar2 m ρ c)) $$ Hpay
  irename Hpay => HN1
  generalize (insert (SemLoc.reg barS, 2) W6 : Waits sig ℕ) = W7
  -- copy number 2
  iapply (wp_copy2 m ρ K c _ (dev7_eq c) W7) $$ [Hs0 HN1 HO HtS2 HtRN2]
  · isplitr; · iexact HIS2
    isplitr; · iexact HIRN2
    isplitl [Hs0]; · iexact Hs0
    isplitl [HN1]; · iexact HN1
    isplitl [HO]; · iexact HO
    isplitl [HtS2]; · iexact HtS2
    isplitr; · iexact HmS2
    isplitl [HtRN2]; · iexact HtRN2
    iexact HmRN2
  iintro ⟨HcS2, HO⟩
  -- the wait for its departure: slot 0 is back
  iapply (Rounds.wp_wait_rest_token 𝒱₀ ER (ringRd m ρ) (c : Thread nD τ) none (κ := K (c, 3))
      (wpE_waitDma2_eq 𝒱₀ (c : Thread nD τ) none Set.univ) (Set.mem_univ _) 0 (O := 0) (W := W7) (R := 0) (m := 0) (T := ∅)
      (by rw [Nat.zero_add, expect_dma m ρ c sS2 (by decide)])) $$ [HcS2 HO HpS2]
  · isplitr; · iexact HIS2
    isplitl [HcS2]; · iexact HcS2
    isplitl [HO]; · iexact HO
    isplitr; · rw [MayWait_zero]; iempintro
    iexact HpS2
  iintro ⟨HO, HpS2, -, Hpay⟩
  ihave Hpay := (Entails.of_eq ((rest_dma m ρ c sS2 (by decide)).trans (payload_S2 m ρ c false))) $$ Hpay
  irename Hpay => Hs0
  generalize (insert (SemLoc.dma sS2, 0) W7 : Waits sig ℕ) = W8
  -- the wait for the arrival: slot 1 holds the left neighbour's partial sum
  iapply (Rounds.wp_wait_rest_token 𝒱₀ ER (ringRd m ρ) (c : Thread nD τ) none (κ := K (c, 6))
      (wpE_waitDma2_eq 𝒱₀ (c : Thread nD τ) none Set.univ) (Set.mem_univ _) 0 (O := 0) (W := W8) (R := 0) (m := 0) (T := ∅)
      (by rw [Nat.zero_add, expect_dma m ρ c sR2 (by decide)])) $$ [HcR2 HO HpR2]
  · isplitr; · iexact HIR2
    isplitl [HcR2]; · iexact HcR2
    isplitl [HO]; · iexact HO
    isplitr; · rw [MayWait_zero]; iempintro
    iexact HpR2
  iintro ⟨HO, HpR2, -, Hpay⟩
  ihave Hpay := (Entails.of_eq ((rest_dma m ρ c sR2 (by decide)).trans (payload_R2 m ρ c false))) $$ Hpay
  unfold recvPay2
  irename Hpay => Hs1
  generalize (insert (SemLoc.dma sR2, 0) W8 : Waits sig ℕ) = W9
  -- the seven cells close: their counters at zero are the device's again
  imod (Rounds.cell_close ER (ringRd m ρ) (Set.mem_univ (K (c, 0))) (fun h => h) (R := 2 + 1) (duties_bar_later m ρ c)) $$ [HpB] with HzB
  · isplitr; · iexact HIB
    iexact HpB
  imod (Rounds.cell_close ER (ringRd m ρ) (Set.mem_univ (K (c, 1))) (fun h => h) (R := 0 + 1) (duties_dma_later m ρ c sS0)) $$ [HpS0] with HzS0
  · isplitr; · iexact HIS0
    iexact HpS0
  imod (Rounds.cell_close ER (ringRd m ρ) (Set.mem_univ (K (c, 2))) (fun h => h) (R := 0 + 1) (duties_dma_later m ρ c sS1)) $$ [HpS1] with HzS1
  · isplitr; · iexact HIS1
    iexact HpS1
  imod (Rounds.cell_close ER (ringRd m ρ) (Set.mem_univ (K (c, 3))) (fun h => h) (R := 0 + 1) (duties_dma_later m ρ c sS2)) $$ [HpS2] with HzS2
  · isplitr; · iexact HIS2
    iexact HpS2
  imod (Rounds.cell_close ER (ringRd m ρ) (Set.mem_univ (K (c, 4))) (fun h => h) (R := 0 + 1) (duties_dma_later m ρ c sR0)) $$ [HpR0] with HzR0
  · isplitr; · iexact HIR0
    iexact HpR0
  imod (Rounds.cell_close ER (ringRd m ρ) (Set.mem_univ (K (c, 5))) (fun h => h) (R := 0 + 1) (duties_dma_later m ρ c sR1)) $$ [HpR1] with HzR1
  · isplitr; · iexact HIR1
    iexact HpR1
  imod (Rounds.cell_close ER (ringRd m ρ) (Set.mem_univ (K (c, 6))) (fun h => h) (R := 0 + 1) (duties_dma_later m ρ c sR2)) $$ [HpR2] with HzR2
  · isplitr; · iexact HIR2
    iexact HpR2
  -- the last partial product, the scaling and the activation
  iapply (wp_load_slot1 c _) $$ Hs1
  iintro %v3 %hv3 Hs1
  iapply (wp_load 𝒱₀ (c : Thread nD τ) none Set.univ (m := xM) (Finset.subset_univ _)) $$ Hx; iintro Hx
  iapply (wp_load 𝒱₀ (c : Thread nD τ) none Set.univ (m := sxM) (Finset.subset_univ _)) $$ Hsx; iintro Hsx
  iapply (wp_load 𝒱₀ (c : Thread nD τ) none Set.univ (m := swM) (Finset.subset_univ _)) $$ Hsw; iintro Hsw
  iapply (wp_load 𝒱₀ (c : Thread nD τ) none Set.univ (m := oM) (Finset.subset_univ _)) $$ Hout; iintro Hout
  iapply (wp_store 𝒱₀ (c : Thread nD τ) none Set.univ (m := oM) (r := rw0) (Mk := Finset.univ) (Finset.subset_univ _)) $$ Hout; iintro Hout
  rw [write_out, wp_ret, pay1_eq, hv3]; imodintro
  iapply Hk
  unfold bodyPost Φ₁ Dat.owesAt Pipeline.owesWithin
  rw [show (dats m ρ 0 c).owed t0_0.succ = 0 from rfl]
  isplitl [Hs0 Hs1 HzB HzS0 HzS1 HzS2 HzR0 HzR1 HzR2]
  · isplitl [Hs0 Hs1]
    · isplitl [Hs0] <;> (iexists _; iassumption)
    isplitl [HzS0 HzS1 HzS2 HzR0 HzR1 HzR2]
    · isplitl [HzS0]; · iexact HzS0
      isplitl [HzS1]; · iexact HzS1
      isplitl [HzS2]; · iexact HzS2
      isplitl [HzR0]; · iexact HzR0
      isplitl [HzR1] <;> iassumption
    iexact HzB
  isplitl [HO]
  · iexists W9
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; swap; · iexact Hout
  ipureintro; rfl

/-- What the body runs from, the names under a quantifier. -/
def bodyPre' (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 4000 in
/-- The launch's obligation for the body on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hc, Hl⟩, Hs0, Hs1⟩, Ho, Hst⟩
  iapply (sound_body m ρ K c fun _ => bodyPost m ρ c)
  unfold bodyPre
  isplitr []
  · isplitl [Hg Hc Hl Hs0 Hs1]
    · isplitl [Hg]; · iexact Hg
      isplitl [Hc]; · iexact Hc
      isplitl [Hl]; · iexact Hl
      isplitl [Hs0] <;> iassumption
    isplitl [Ho]; · iexact Ho
    iexact Hst
  · iintro H; iexact H

end Body

end Cert.RingProof

end
-- ==== Proof.Run.lean ====
/-
# The launch

From a memory with every counter at zero to the end of every fair execution of the four devices:

* the launch's resources are dealt to the devices: the cells' round states and positions, the tokens of their duties
  (each to the device that pays it) and the launch credit (each to the device that waits for it);
* the invariants of all 28 cells are allocated at once, since neighbours share them;
* the library's launch theorem, at the body's proof, gives `run_main`: every array ends at the content the proof data
  name and every counter at zero.
-/
module

public import proofs.«01_k».proof.Proof.Body
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro a b h
  fin_cases a <;> fin_cases b <;> first | rfl | exact absurd h (by decide)

theorem kcell_injective : Function.Injective (kcell : Dev nD × Fin 7 → GSem nD τ sig) := by
  rintro ⟨c, k⟩ ⟨c', k'⟩ h
  have h1 : c = c' := congrArg (fun g : GSem nD τ sig => g.1.1) h
  exact Prod.ext h1 (csem_injective (congrArg Prod.snd h))

/-- The 28 cells of the ring. -/
def ringCells : Finset (GSem nD τ sig) := Finset.univ.map ⟨kcell, kcell_injective⟩

/-- The duties of one device's cells: which cell, which round, which duty. -/
abbrev duty : Fin 10 → Fin 7 × ℕ × Bool := fun
  | 0 => (0, 0, false) | 1 => (0, 0, true) | 2 => (0, 1, true) | 3 => (0, 2, true)
  | 4 => (1, 0, false) | 5 => (2, 0, false) | 6 => (3, 0, false) | 7 => (4, 0, false) | 8 => (5, 0, false) | 9 => (6, 0, false)

theorem duty_injective : Function.Injective duty := by decide

/-- The same, as duties of the machine's cells. -/
abbrev tokOf (cj : Dev nD × Fin 10) : GSem nD τ sig × ℕ × Bool := (kcell (cj.1, (duty cj.2).1), (duty cj.2).2)

theorem tokOf_injective : Function.Injective (tokOf : Dev nD × Fin 10 → GSem nD τ sig × ℕ × Bool) := by
  rintro ⟨c, j⟩ ⟨c', j'⟩ h
  have h1 : (c, (duty j).1) = (c', (duty j').1) := kcell_injective (congrArg Prod.fst h)
  have h2 := congrArg Prod.snd h
  have hc : c = c' := congrArg (fun p : Dev nD × Fin 7 => p.1) h1
  have hk : (duty j).1 = (duty j').1 := congrArg (fun p : Dev nD × Fin 7 => p.2) h1
  exact Prod.ext hc (duty_injective (Prod.ext hk h2))

def ringToks : Finset (GSem nD τ sig × ℕ × Bool) := Finset.univ.map ⟨tokOf, tokOf_injective⟩

/-- The element the launch starts from: the pipeline's rounds and the ring's. -/
def u₀ : UU := (initOf (Pipeline.cells cfgs cellOf_inj) (Pipeline.launchToks cfgs cellOf_inj), initOf ringCells ringToks)

/-- The tokens of the duties of device `c`'s own cells. -/
def toks (c : Dev nD) : sProp 𝕄 :=
  iprop(dutyTok ER (barCell c) 0 false ∗ dutyTok ER (barCell c) 0 true ∗ dutyTok ER (barCell c) 1 true ∗ dutyTok ER (barCell c) 2 true
    ∗ dutyTok ER (cell c sS0) 0 false ∗ dutyTok ER (cell c sS1) 0 false ∗ dutyTok ER (cell c sS2) 0 false
    ∗ dutyTok ER (cell c sR0) 0 false ∗ dutyTok ER (cell c sR1) 0 false ∗ dutyTok ER (cell c sR2) 0 false)

/-- What the launch deals device `c`; -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- what the allocation of the invariants makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem bigSep_cells (Φ : GSem nD τ sig → sProp 𝕄) :
    bigSep ringCells Φ = bigSep Finset.univ fun c : Dev nD => bigSep Finset.univ fun k : Fin 7 => Φ (kcell (c, k)) := by
  unfold ringCells; rw [bigSep_map, bigSep_univ_prod]; rfl

omit [FloatOps F] in
theorem bigSep_toks : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_fin10]; rfl

/-- The ring's part of the launch element, dealt. -/
theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst := (Entails.of_eq (bigSep_cells fun g => roundState ER (ringRd m ρ) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_toks) $$ Htok
  unfold G; simp only [bigSep_sep']
  isplitl [Hst]; · iexact Hst
  isplitl [Hat Hr]
  · isplitl [Hat] <;> iassumption
  iexact Htok

/-! ## The invariants -/

omit [FloatOps F] in
/-- The kernel's own semaphores are the three send and the three receive semaphores; -/
theorem ownSems0_eq (c : Dev nD) : (Pipeline.ownSems0 (Ix := ℕ) (Name := ℕ) (U := UU) (Lvl := ℕ) (Val := Elt F) (τ := τ) osem c : sProp 𝕄)
    = iprop(semVal (cell c sS0) 0 ∗ semVal (cell c sS1) 0 ∗ semVal (cell c sS2) 0 ∗ semVal (cell c sR0) 0 ∗ semVal (cell c sR1) 0 ∗ semVal (cell c sR2) 0) := by
  rw [Pipeline.ownSems0_eq_of_list c osem [0, 1, 2, 3, 4, 5] (by decide) (by decide)]; rfl
omit [FloatOps F] in
/-- the barrier semaphore is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HO, HB⟩
  isplitl [HB]; · iexact HB
  iexact HO

/-- One device's seven invariants, from its counters and round states. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hrest⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  iexact Hrest

/-- What all devices may use freely: every invariant, and that every cell has reached round 0. -/
def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem ghost_intro (K : Dev nD × Fin 7 → ℕ) (c : Dev nD) : iprop(records m ρ K ∗ poss c ∗ payToks c) ⊢ G' m ρ c := by
  unfold records G' ghost invs marks
  iintro ⟨⟨#HI, #HR⟩, Hp, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nxt c, 0)); iexact HI
    isplitr; · iapply (inv_at m ρ K (prv c, 0)); iexact HI
    isplitr; · iapply (inv_at m ρ K (nxt c, 4)); iexact HI
    isplitr; · iapply (inv_at m ρ K (nxt c, 5)); iexact HI
    iapply (inv_at m ρ K (nxt c, 6)); iexact HI
  isplitr
  · isplitr; · iapply (reached_at (F := F) (nxt c, 0)); iexact HR
    isplitr; · iapply (reached_at (F := F) (prv c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (nxt c, 4)); iexact HR
    isplitr; · iapply (reached_at (F := F) (nxt c, 5)); iexact HR
    iapply (reached_at (F := F) (nxt c, 6)); iexact HR
  isplitl [Hp]; · iexact Hp
  iexact Ht

omit [FloatOps F] in
/-- The tokens go to the devices that pay: a barrier cell's `false` and a receive cell's to the left neighbour, a
    barrier cell's `true` to the right neighbour, a send cell's stay. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring.symm (fun c : Dev nD => (dutyTok ER (barCell c) 1 true : sProp 𝕄)),
    bigSep_univ_equiv ring.symm (fun c : Dev nD => (dutyTok ER (barCell c) 2 true : sProp 𝕄)),
    bigSep_univ_equiv ring (fun c : Dev nD => (dutyTok ER (cell c sR0) 0 false : sProp 𝕄)),
    bigSep_univ_equiv ring (fun c : Dev nD => (dutyTok ER (cell c sR1) 0 false : sProp 𝕄)),
    bigSep_univ_equiv ring (fun c : Dev nD => (dutyTok ER (cell c sR2) 0 false : sProp 𝕄))]
  exact Entails.refl _

/-- What every device may use freely can be handed to each of them. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names chosen once for all devices, each device's share put together. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (deal (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(poss c ∗ payToks c) from Entails.of_eq (by unfold poss; rw [bigSep_fin7])))
    isplitl [Hat]; · iexact Hat
    iexact Htk

/-- The allocation, for all devices under one update. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- The credit of everything owed at launch, sorted by who waits for it. -/
theorem creds_intro (c : Dev nD) : (Pipeline.launchCred O₀ c : sProp 𝕄) ⊢ creds c := by
  rw [show O₀ = fun d => O₁ d + tallyAt (barCell (prv d)) 0 1 from rfl, Pipeline.launchCred_add,
    show O₁ = fun d => O₂ d + tallyAt (barCell (nxt d)) 0 1 from rfl, Pipeline.launchCred_add,
    show O₂ = fun d => O₃ d + tallyAt (cell (nxt d) sR0) 0 N from rfl, Pipeline.launchCred_add,
    show O₃ = fun d => O₄ d + tallyAt (barCell (prv d)) 1 1 from rfl, Pipeline.launchCred_add,
    show O₄ = fun d => O₅ d + tallyAt (cell (nxt d) sR1) 0 N from rfl, Pipeline.launchCred_add,
    show O₅ = fun d => O₆ d + tallyAt (barCell (prv d)) 2 1 from rfl, Pipeline.launchCred_add]
  unfold O₆ creds
  iintro ⟨⟨⟨⟨⟨⟨H6, H5⟩, H4⟩, H3⟩, H2⟩, H1⟩, H0⟩
  ihave HR2 := (Pipeline.launchCred_tallyAt (.dma sR2) nxt prv nxt_prv prv_nxt 0 N c) $$ H6
  ihave HB2 := (Pipeline.launchCred_tallyAt (.reg barS) prv nxt prv_nxt nxt_prv 2 1 c) $$ H5
  ihave HR1 := (Pipeline.launchCred_tallyAt (.dma sR1) nxt prv nxt_prv prv_nxt 0 N c) $$ H4
  ihave HB1 := (Pipeline.launchCred_tallyAt (.reg barS) prv nxt prv_nxt nxt_prv 1 1 c) $$ H3
  ihave HR0 := (Pipeline.launchCred_tallyAt (.dma sR0) nxt prv nxt_prv prv_nxt 0 N c) $$ H2
  ihave HBn := (Pipeline.launchCred_tallyAt (.reg barS) nxt prv nxt_prv prv_nxt 0 1 c) $$ H1
  ihave HBp := (Pipeline.launchCred_tallyAt (.reg barS) prv nxt prv_nxt nxt_prv 0 1 c) $$ H0
  isplitl [HBn HBp]
  · rw [show (tallyAt (barCell c) 0 2 : CellTallies nD τ sig ℕ) = tallyAt (barCell c) 0 1 + tallyAt (barCell c) 0 1 from (tallyAt_add _ _ 1 1).symm]
    iapply (cred_add _ _).2
    isplitl [HBn] <;> iassumption
  isplitl [HB1]; · iexact HB1
  isplitl [HB2]; · iexact HB2
  isplitl [HR0]; · iexact HR0
  isplitl [HR1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iapply (scratch_split (F := F) c f); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨⟨%X, H0⟩, ⟨%Y, H1⟩⟩, HO, HB⟩
  isplitl [HB]; · iexact HB
  isplitl [HO]; · iexact HO
  iapply (scratch_join (F := F) c X Y)
  isplitl [H0] <;> iassumption

omit [FloatOps F] in
theorem mayWait_stage (c : Dev nD) (q : DmaSem sig) (hq : SemLoc.dma q ≠ .dma sR0 ∧ SemLoc.dma q ≠ .dma sR1 ∧ SemLoc.dma q ≠ .dma sR2)
    (O : CellTallies nD τ sig ℕ) (hO : O = O₀ c ∨ O = 0) : (levAts L lv : sProp 𝕄) ⊢ MayWait (c : Thread nD τ) (.dma q) 0 O := by
  refine mayWait c (.dma q) 0 0 O (by decide) (le_of_eq (lv_low c q hq.1 hq.2.1 hq.2.2 0)) ?_
  rcases hO with rfl | rfl
  · exact above0 c
  · exact fun g i h => absurd h (lt_irrefl 0)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

/-- What an array holds at the end, by the proof data. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every fair execution of the four devices terminates, and
    every final state has each array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold at the end what they held. -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

end Cert.RingProof

end
-- ==== Proof.RefValue.lean ====
/-
# The reference's value

What the one-device reference leaves in its result array, as a function of its argument arrays: its body is one store
of the payload over the whole result, at the whole arguments and the two scales' words, and every window of its call is
a whole array.
-/
module

public import proofs.«01_k».proof.Proof.Gen.ReferenceIdeal.Value
public import Idealize.ShloMosaic.Lib.Pipeline.Value

@[expose] public section

noncomputable section

namespace Cert.RefProof

open Cert.ReferenceIdeal Cert.ReferenceIdeal.Gen Cert.ReferenceIdeal.Value
open Idealize.ShloMosaic Idealize.ShloMosaic.TcCoe Idealize.SL.Sem
open Idealize.ShloMosaic.Pipeline (Dat)

variable {F : FTy → Type} [FloatOps F]

/-- The single place of a one-word array. -/
def only : S1.Idx := fun a => match a with | ⟨0, _⟩ => (0 : Fin 1)

/-- A one-word array has no other place. -/
theorem eq_only (j : S1.Idx) : j = only := by
  funext a; match a with | ⟨0, _⟩ => exact Subsingleton.elim (α := Fin 1) _ _

/-- The reference's result array as one function of its four argument arrays. -/
def spec (x : Vec F S4096x4096 .fp8e4m3) (w : Vec F S4096x2048 .fp8e5m2) (a b : Vec F S1 .f32) : Vec F S4096x2048 .f32 :=
  k0_pay1 x w (a only) (b only)

theorem zeros2 : (![0, 0] : Fin 2 → Nat) = fun _ => 0 := funext fun a => by fin_cases a <;> rfl

/-- What the body leaves in the result's staging buffer is `spec` of what the arguments' staging buffers hold. -/
theorem body_value (c : Dev nD) (a0 : Memref sig .tc .vmem S4096x4096 .fp8e4m3) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e4m3) (w : Vec F S4096x2048 .fp8e5m2) (p q : Vec F S1 .f32) :
    out0_A_4 c a0 h0 a1 h1 a2 h2 a3 h3 a4 h4 x w p q = spec x w p q := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread p) _)
        (View.readAt (Elt F) a3.view (Rect.unit (s := S1) ![0] S1.size inb_S1_S1_0).toLoadRect (h3.unread q) _)⟩] :
      List (View.Piece (Elt F) S4096x2048 .f32)) = _
  rw [View.canon_unit_zero zeros2]
  rw [View.readAt_eq_ld, View.readAt_eq_ld, View.readAt_eq_ld, View.readAt_eq_ld, h0.read_unread, h1.read_unread,
    h2.read_unread, h3.read_unread, View.ld_unit_zero (S := S4096x4096) zeros2, View.ld_unit_zero (S := S4096x2048) zeros2]
  exact congrArg₂ (k0_pay1 x w) (congrArg p (eq_only _)) (congrArg q (eq_only _))

variable (m : (ℓ : Loc nD τ sig) → Buf (Elt F) ℓ) (ρ : Dev nD → PrngReg)

/-- The first argument's block is the whole of its array. -/
theorem arg0_block (c : Dev nD) (t : Fin cfg0.N) : iblk m c 0 t = m ((c : Thread nD τ).loc main_arg0) :=
  View.ld_unit_zero (funext fun _ => Nat.zero_mul _) _ _
/-- The second argument's block is the whole of its array. -/
theorem arg1_block (c : Dev nD) (t : Fin cfg0.N) : iblk m c 1 t = m ((c : Thread nD τ).loc main_arg1) :=
  View.ld_unit_zero (funext fun _ => Nat.zero_mul _) _ _
/-- The third argument's block is the whole of its array. -/
theorem arg2_block (c : Dev nD) (t : Fin cfg0.N) : iblk m c 2 t = m ((c : Thread nD τ).loc main_arg2) :=
  View.ld_unit_zero (funext fun _ => Nat.zero_mul _) _ _
/-- The fourth argument's block is the whole of its array. -/
theorem arg3_block (c : Dev nD) (t : Fin cfg0.N) : iblk m c 3 t = m ((c : Thread nD τ).loc main_arg3) :=
  View.ld_unit_zero (funext fun _ => Nat.zero_mul _) _ _

/-- The reference's result array after the run. -/
theorem result_value (c : Dev nD) : (dats m 0 c).arrAt 4 cfg0.N
    = spec (m ((c : Thread nD τ).loc main_arg0)) (m ((c : Thread nD τ).loc main_arg1))
        (m ((c : Thread nD τ).loc main_arg2)) (m ((c : Thread nD τ).loc main_arg3)) := by
  have h := (blocks4 m c t0_0 (flush0_4 _)).trans (flushed4_A m c t0_0)
  rw [body_value, arg0_block, arg1_block, arg2_block, arg3_block] at h
  have e : ∀ f : Vec F S4096x2048 .f32, ((cfg0.win 4).blk t0_0).view.read (Elt F) f = f := fun f =>
    View.ld_unit_zero (funext fun _ => Nat.zero_mul _) _ _
  exact (e _).symm.trans h

/-- Every fair execution of the reference ends with the result array at `spec` of the arguments, and these unchanged. -/
theorem run_spec : θ_run defs (onTc (τ := τ) (main (F := F))) ⟨m, fun _ => 0, ρ⟩ fun r => ∀ c : Dev nD,
      r.2.mem ((c : Thread nD τ).loc main_v0)
        = spec (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_value m c), (h c).2⟩) (run_blocks m ρ)

end Cert.RefProof

end
-- ==== Proof.Value.lean ====
/-
# The value of the ring kernel over the extended reals

Device `c` ends with block `c` of the reference's result. The four partial products that are added on the way round the
ring are the four parts, one per device, of the sum over the 4096 columns of `x`; the additions come in the ring's order,
which does not matter to a sum of extended reals. The last step multiplies `y` by its logistic, and the reference
divides `y` by `1 + exp (0 - y)`: the same number, since the divisor is never zero.
-/
module

public import proofs.«01_k».proof.Proof.Run
public import proofs.«01_k».proof.Proof.RefValue
public import Idealize.ShloMosaic.Lib.MatmulPlain
public import Idealize.ShloMosaic.Lib.ValueIdx
public import Idealize.ShloMosaic.Lib.Layout

@[expose] public section

noncomputable section

namespace Cert.RingProof

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The arrays around the body -/

section Arrays

variable {F : FTy → Type} [FloatOps F]
variable (m : (ℓ : Loc nD τ sig) → Buf (Elt F) ℓ) (ρ : Dev nD → PrngReg)

/-- The staged block of `x` is the device's part of `x`. -/
theorem xstg_eq (c : Dev nD) : xstg m ρ c = m ((c : Thread nD τ).loc main_arg0) := by
  unfold xstg s₀
  exact View.ld_unit_zero (funext fun _ => Nat.zero_mul _) _ _
/-- The staged block of `w` is the device's part of `w`. -/
theorem wstg_eq (c : Dev nD) : wstg m ρ c = m ((c : Thread nD τ).loc main_arg1) := by
  unfold wstg s₀
  exact View.ld_unit_zero (funext fun _ => Nat.zero_mul _) _ _
/-- The staged scale of `x` is the device's copy of it. -/
theorem sxstg_eq (c : Dev nD) : sxstg m ρ c = m ((c : Thread nD τ).loc main_arg2) := by
  unfold sxstg s₀
  exact View.ld_unit_zero (funext fun _ => Nat.zero_mul _) _ _
/-- The staged scale of `w` is the device's copy of it. -/
theorem swstg_eq (c : Dev nD) : swstg m ρ c = m ((c : Thread nD τ).loc main_arg3) := by
  unfold swstg s₀
  exact View.ld_unit_zero (funext fun _ => Nat.zero_mul _) _ _

/-- The scale of `x` that device `c` reads is its word. -/
theorem sx_eq (c : Dev nD) : sx m ρ c = m ((c : Thread nD τ).loc main_arg2) Cert.RefProof.only := by
  rw [← sxstg_eq m ρ c]; exact congrArg (sxstg m ρ c) (Cert.RefProof.eq_only _)
/-- The scale of `w` that device `c` reads is its word. -/
theorem sw_eq (c : Dev nD) : sw m ρ c = m ((c : Thread nD τ).loc main_arg3) Cert.RefProof.only := by
  rw [← swstg_eq m ρ c]; exact congrArg (swstg m ρ c) (Cert.RefProof.eq_only _)

/-- The result array of device `c` after the run is what its body left in the result's staging buffer. -/
theorem finalA_4 (c : Dev nD) : finalA m ρ c (4 : Fin 5) = outAt m ρ c := by
  have e : ∀ f : Vec F S1024x2048 .f32, ((cfg0.win (4 : Fin 5)).blk (0 : Fin 1)).view.read (Elt F) f = f := fun f =>
    View.ld_unit_zero (funext fun _ => Nat.zero_mul _) _ _
  refine (e _).symm.trans ?_
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

end Arrays

/-! ## Sums -/

/-- Place `k` of part `q` of 4096 places cut in four parts of 1024. -/
def place (q : Fin 4) (k : Fin 1024) : Fin 4096 := ⟨q.val * 1024 + k.val, by omega⟩

/-- A sum over the 4096 places is the sum over the four parts of the sums over each. -/
theorem sum_parts (f : Fin 4096 → EReal) : ∑ j, f j = ∑ q : Fin 4, ∑ k : Fin 1024, f (place q k) := by
  rw [← Fintype.sum_prod_type', ← Equiv.sum_comp (finProdFinEquiv (m := 4) (n := 1024))]
  refine Finset.sum_congr rfl fun p _ => congrArg f (Fin.ext ?_)
  show p.2.val + 1024 * p.1.val = p.1.val * 1024 + p.2.val
  omega

/-- Adding a term per device in the ring's order, which ends at device `c`, gives the sum over the devices. -/
theorem ring_sum (g : Dev nD → EReal) (c : Dev nD) :
    ((g (prv (prv (prv c))) + g (prv (prv c))) + g (prv c)) + g c = ∑ d : Fin 4, g d := by
  have e : ∑ d : Fin 4, g d = g (0 : Fin 4) + g (1 : Fin 4) + g (2 : Fin 4) + g (3 : Fin 4) := Fin.sum_univ_four (M := EReal) g
  rw [e]
  obtain rfl | rfl | rfl | rfl : c = (0 : Fin 4) ∨ c = (1 : Fin 4) ∨ c = (2 : Fin 4) ∨ c = (3 : Fin 4) := by revert c; decide
  · rw [show prv (prv (prv (0 : Fin 4))) = (1 : Fin 4) by decide, show prv (prv (0 : Fin 4)) = (2 : Fin 4) by decide,
      show prv (0 : Fin 4) = (3 : Fin 4) by decide]; ac_rfl
  · rw [show prv (prv (prv (1 : Fin 4))) = (2 : Fin 4) by decide, show prv (prv (1 : Fin 4)) = (3 : Fin 4) by decide,
      show prv (1 : Fin 4) = (0 : Fin 4) by decide]; ac_rfl
  · rw [show prv (prv (prv (2 : Fin 4))) = (3 : Fin 4) by decide, show prv (prv (2 : Fin 4)) = (0 : Fin 4) by decide,
      show prv (2 : Fin 4) = (1 : Fin 4) by decide]; ac_rfl
  · rw [show prv (prv (prv (3 : Fin 4))) = (0 : Fin 4) by decide, show prv (prv (3 : Fin 4)) = (1 : Fin 4) by decide,
      show prv (3 : Fin 4) = (2 : Fin 4) by decide]

/-! ## The last step -/

/-- The divisor of the logistic is never zero. -/
theorem one_add_exp_ne_zero (z : EReal) : 1 + Ideal.exp z ≠ 0 := by
  have h : 0 ≤ Ideal.exp z := by
    induction z with
    | bot => exact le_refl _
    | top => exact le_top
    | coe r => exact EReal.coe_nonneg.mpr (Real.exp_pos r).le
  exact (lt_of_lt_of_le zero_lt_one (le_add_of_nonneg_right h)).ne'

/-- `y` times its logistic is `y` over `1 + exp (0 - y)`, at every extended real. -/
theorem mul_logistic (y : EReal) : y * Ideal.logistic y = Ideal.div y (1 + Ideal.exp (0 - y)) := by
  have e : (0 : EReal) - y = -y := by rw [sub_eq_add_neg, zero_add]
  unfold Ideal.logistic Ideal.div
  rw [e, if_neg (one_add_exp_ne_zero _), if_neg (one_add_exp_ne_zero _), one_mul]

/-! ## The pointwise value -/

/-- The dot product of row `i` of `x` with column `l` of `w`. -/
def dotAt (X : FVec Ideal ⟨2, ![4096, 4096]⟩ .fp8e4m3) (W : FVec Ideal ⟨2, ![4096, 2048]⟩ .fp8e5m2) (i : Fin 4096) (l : Fin 2048) : EReal :=
  ∑ j : Fin 4096, X (ix2 i j) * W (ix2 j l)

/-- The part of it that device `d` holds the operands of. -/
def dotPart (X : FVec Ideal ⟨2, ![4096, 4096]⟩ .fp8e4m3) (W : FVec Ideal ⟨2, ![4096, 2048]⟩ .fp8e5m2) (d : Fin 4) (i : Fin 4096) (l : Fin 2048) : EReal :=
  ∑ k : Fin 1024, X (ix2 i (place d k)) * W (ix2 (place d k) l)

theorem dotAt_eq (X W) (i : Fin 4096) (l : Fin 2048) : dotAt X W i l = ∑ d : Fin 4, dotPart X W d i l :=
  sum_parts fun j => X (ix2 i j) * W (ix2 j l)

/-- The last step at one place: scale the sum `s` by `a * b` and divide by `1 + exp` of its negative. -/
def gate (s a b : EReal) : EReal := Ideal.div (s * (a * b)) (1 + Ideal.exp (0 - s * (a * b)))

/-- The f32 word of one is the extended real `1`. -/
theorem ofBits_one : Ideal.ofBits .f32 0x3F800000#32 = 1 := by
  simp [Ideal.ofBits, Ideal.ieee]
  rw [← EReal.coe_mul, ← EReal.coe_one]
  norm_num

/-- The reference's matrix product. -/
def refDot (X : FVec Ideal ⟨2, ![4096, 4096]⟩ .fp8e4m3) (W : FVec Ideal ⟨2, ![4096, 2048]⟩ .fp8e5m2) : FVec Ideal ⟨2, ![4096, 2048]⟩ .f32 :=
  FloatOps.matmul (DotDims.plain 4096 4096 2048) none (extf .f32 X (by decide)) (extf .f32 W (by decide))
    (constant ⟨2, ![4096, 2048]⟩ .f32 0x00000000#32)

theorem refDot_apply (X W) (i : Fin 4096) (l : Fin 2048) : refDot X W (ix2 i l) = dotAt X W i l := by
  refine (Ideal.matmul_plain_apply (M := 4096) (K := 4096) (N := 2048) none _ _ _ i l).trans ?_
  show Ideal.ofBits .f32 0x00000000#32 + _ = _
  rw [Ideal.ofBits_zero_f32, zero_add]; rfl

/-- The reference's result at a place. -/
theorem spec_apply (X : FVec Ideal ⟨2, ![4096, 4096]⟩ .fp8e4m3) (W : FVec Ideal ⟨2, ![4096, 2048]⟩ .fp8e5m2)
    (a b : FVec Ideal ⟨1, ![1]⟩ .f32) (i : Fin 4096) (l : Fin 2048) :
    Cert.RefProof.spec (F := Ideal) X W a b (ix2 i l) = gate (dotAt X W i l) (a Cert.RefProof.only) (b Cert.RefProof.only) := by
  have h : Cert.RefProof.spec (F := Ideal) X W a b (ix2 i l)
      = Ideal.div (refDot X W (ix2 i l) * (a Cert.RefProof.only * b Cert.RefProof.only))
          (Ideal.ofBits .f32 0x3F800000#32
            + Ideal.exp (Ideal.ofBits .f32 0x00000000#32 - refDot X W (ix2 i l) * (a Cert.RefProof.only * b Cert.RefProof.only))) := rfl
  rw [h, refDot_apply, ofBits_one, Ideal.ofBits_zero_f32]
  rfl

/-- A partial product at a place. -/
theorem mm_apply (w : FVec Ideal ⟨2, ![1024, 2048]⟩ .fp8e5m2) (x : FVec Ideal ⟨2, ![1024, 1024]⟩ .fp8e4m3) (r : Fin 1024) (l : Fin 2048) :
    mm (F := Ideal) w x (ix2 r l) = ∑ k : Fin 1024, x (ix2 r k) * w (ix2 k l) := by
  unfold mm k0_pay2
  rw [shapeCast_self, shapeCast_self]
  refine (Ideal.matmul_plain_apply (M := 1024) (K := 1024) (N := 2048) none _ _ _ r l).trans ?_
  show Ideal.ofBits .f32 0x00000000#32 + _ = _
  rw [Ideal.ofBits_zero_f32, zero_add]; rfl

/-- The last step of the kernel at a place. -/
theorem fin1_apply (s : FVec Ideal ⟨2, ![1024, 2048]⟩ .f32) (a b : EReal) (j : (⟨2, ![1024, 2048]⟩ : Shape).Idx) :
    fin1 (F := Ideal) s a b j = gate (s j) a b := mul_logistic (s j * (a * b))

/-! ## The rows each device multiplies -/

theorem off_0 (c : Dev nD) : k0_off1 c 3#32 = ![(prv c).val * 1024, 0] := by revert c; decide
theorem off_1 (c : Dev nD) : k0_off1 c 6#32 = ![(prv (prv c)).val * 1024, 0] := by revert c; decide
theorem off_2 (c : Dev nD) : k0_off1 c 5#32 = ![(nxt c).val * 1024, 0] := by revert c; decide
theorem off_3 (c : Dev nD) : k0_off1 c 4#32 = ![c.val * 1024, 0] := by revert c; decide

/-- Rows `q * 1024 …` of a device's part of `x` at a place, when the part is the columns of `X` that device `d` holds. -/
theorem rows_apply (c d : Dev nD) (q : Fin 4) (kc : BitVec 32) (h : ∀ a, k0_off1 c kc a + S1024x1024.size a ≤ S4096x1024.size a)
    (hq : k0_off1 c kc = ![q.val * 1024, 0]) (X : FVec Ideal ⟨2, ![4096, 4096]⟩ .fp8e4m3) (r k : Fin 1024) :
    xM.view.readAt (Elt Ideal) (rx c kc h).toLoadRect (Layout.block ⟨2, ![4096, 1024]⟩ ⟨2, ![4096, 4096]⟩ 1 4 d X) (ix2 r k)
      = X (ix2 (place q r) (place d k)) := by
  refine congrArg X (funext fun a => Fin.ext ?_)
  match a with
  | ⟨0, _⟩ =>
    show k0_off1 c kc 0 + 1 * r.val = q.val * 1024 + r.val
    rw [hq]; show q.val * 1024 + 1 * r.val = _; omega
  | ⟨1, _⟩ =>
    show d.val * 1024 + (k0_off1 c kc 1 + 1 * k.val) = d.val * 1024 + k.val
    rw [hq]; show d.val * 1024 + (0 + 1 * k.val) = _; omega

/-- A device's part of `w` at a place. -/
theorem wblock_apply (d : Dev nD) (W : FVec Ideal ⟨2, ![4096, 2048]⟩ .fp8e5m2) (k : Fin 1024) (l : Fin 2048) :
    (Layout.block ⟨2, ![1024, 2048]⟩ ⟨2, ![4096, 2048]⟩ 0 4 d W : FVec Ideal ⟨2, ![1024, 2048]⟩ .fp8e5m2) (ix2 k l) = W (ix2 (place d k) l) := by
  refine congrArg W (funext fun a => Fin.ext ?_)
  match a with
  | ⟨0, _⟩ => rfl
  | ⟨1, _⟩ => rfl

section Result

variable (m : (ℓ : Loc nD τ sig) → Buf (Elt Ideal) ℓ) (ρ : Dev nD → PrngReg)
variable (X : FVec Ideal ⟨2, ![4096, 4096]⟩ .fp8e4m3) (W : FVec Ideal ⟨2, ![4096, 2048]⟩ .fp8e5m2)

/-- Each device's first two arguments are its parts of `X` and of `W`. -/
def Parts : Prop := ∀ c : Dev nD,
  m ((c : Thread nD τ).loc main_arg0) = Layout.block ⟨2, ![4096, 1024]⟩ ⟨2, ![4096, 4096]⟩ 1 4 c X
  ∧ m ((c : Thread nD τ).loc main_arg1) = Layout.block ⟨2, ![1024, 2048]⟩ ⟨2, ![4096, 2048]⟩ 0 4 c W

variable {m X W}

/-- A device's product of the rows of chunk `q` with its part of `w` is its part of the chunk's dot products. -/
theorem mm_rows (hp : Parts m X W) (d : Dev nD) (q : Fin 4) (kc : BitVec 32)
    (h : ∀ a, k0_off1 d kc a + S1024x1024.size a ≤ S4096x1024.size a) (hq : k0_off1 d kc = ![q.val * 1024, 0]) (r : Fin 1024) (l : Fin 2048) :
    mm (F := Ideal) (wstg m ρ d) (xM.view.readAt (Elt Ideal) (rx d kc h).toLoadRect (xstg m ρ d)) (ix2 r l)
      = dotPart X W d (place q r) l := by
  rw [wstg_eq, xstg_eq, (hp d).1, (hp d).2]
  refine (mm_apply _ _ r l).trans (Finset.sum_congr rfl fun k _ => ?_)
  exact congrArg₂ (· * ·) (rows_apply d d q kc h hq X r k) (wblock_apply d W k l)

theorem prv4 (c : Dev nD) : prv (prv (prv (prv c))) = c := by revert c; decide

/-- The sum that device `c` ends with, at a place: the dot product of row `c * 1024 + r` of `x` with a column of `w`. -/
theorem total_apply (hp : Parts m X W) (c : Dev nD) (r : Fin 1024) (l : Fin 2048) :
    addf (acc2 m ρ (prv c)) (mm (wstg m ρ c) (xs3 m ρ c)) (ix2 r l) = dotAt X W (place c r) l := by
  rw [dotAt_eq, ← ring_sum (fun d => dotPart X W d (place c r) l) c]
  have h0 : mm (F := Ideal) (wstg m ρ (prv (prv (prv c)))) (xs0 m ρ (prv (prv (prv c)))) (ix2 r l) = dotPart X W (prv (prv (prv c))) (place c r) l :=
    mm_rows ρ hp _ c 3#32 _ (by rw [off_0, prv4]) r l
  have h1 : mm (F := Ideal) (wstg m ρ (prv (prv c))) (xs1 m ρ (prv (prv c))) (ix2 r l) = dotPart X W (prv (prv c)) (place c r) l :=
    mm_rows ρ hp _ c 6#32 _ (by rw [off_1, prv4]) r l
  have h2 : mm (F := Ideal) (wstg m ρ (prv c)) (xs2 m ρ (prv c)) (ix2 r l) = dotPart X W (prv c) (place c r) l :=
    mm_rows ρ hp _ c 5#32 _ (by rw [off_2, nxt_prv]) r l
  have h3 : mm (F := Ideal) (wstg m ρ c) (xs3 m ρ c) (ix2 r l) = dotPart X W c (place c r) l :=
    mm_rows ρ hp _ c 4#32 _ (off_3 c) r l
  rw [← h0, ← h1, ← h2, ← h3]
  rfl

/-- Device `c`'s result is block `c` of the reference's result on the whole arrays, when its scales are the reference's. -/
theorem outAt_eq (hp : Parts m X W) (a b : FVec Ideal ⟨1, ![1]⟩ .f32) (c : Dev nD)
    (ha : m ((c : Thread nD τ).loc main_arg2) = a) (hb : m ((c : Thread nD τ).loc main_arg3) = b) :
    outAt m ρ c = Layout.block ⟨2, ![1024, 2048]⟩ ⟨2, ![4096, 2048]⟩ 0 4 c (Cert.RefProof.spec (F := Ideal) X W a b) := by
  funext j
  obtain ⟨r, l, rfl⟩ : ∃ (r : Fin 1024) (l : Fin 2048), j = ix2 r l := ⟨j 0, j 1, eq_ix2 j⟩
  have hr : (Layout.block ⟨2, ![1024, 2048]⟩ ⟨2, ![4096, 2048]⟩ 0 4 c (Cert.RefProof.spec (F := Ideal) X W a b) : FVec Ideal ⟨2, ![1024, 2048]⟩ .f32) (ix2 r l)
      = Cert.RefProof.spec (F := Ideal) X W a b (ix2 (place c r) l) := by
    refine congrArg (Cert.RefProof.spec (F := Ideal) X W a b) (funext fun e => Fin.ext ?_)
    match e with
    | ⟨0, _⟩ => rfl
    | ⟨1, _⟩ => rfl
  rw [hr, spec_apply, ← total_apply ρ hp c r l, ← ha, ← hb, ← sx_eq m ρ c, ← sw_eq m ρ c]
  exact fin1_apply _ _ _ _

end Result

end Cert.RingProof

end
-- ==== Proof.Same.lean ====
/-
# The kernel's program and its idealization's are one

The idealization rewrites no operation, so the two printed modules hold the same program twice. What is proved of one
for any floats is then true of the other.
-/
module

public import proofs.«01_k».proof.Proof.Gen.Kernel
public import proofs.«01_k».proof.Proof.Gen.KernelIdeal

@[expose] public section

noncomputable section

namespace Cert.Same

open Idealize.ShloMosaic

variable {F : FTy → Type} [FloatOps F]

/-- The two kernels' body tables are equal. -/
theorem bodies_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So are the tables with the launches. -/
theorem defs_same : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) bodies_same

end Cert.Same

end
-- ==== Proof.lean ====
/-
# The claims about the ring kernel, together

* The frames of the kernel and of its idealization: every fair execution ends, with the arguments unchanged and every
  counter at zero (Proof/Run.lean, proved once for any floats).
* The frame of the reference.
* The idealization rewrites nothing.
* Over the extended reals each device's result is its block of the reference's result (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- Every fair execution of the ring kernel ends with its arguments unchanged and every counter at zero, for any floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := F)) _ _).mono
    (fun _ h => ⟨fun c => ⟨(h.1 c (0 : Fin 5)).trans (Cert.RingProof.finalA_0 m ρ c), (h.1 c (1 : Fin 5)).trans (Cert.RingProof.finalA_1 m ρ c),
      (h.1 c (2 : Fin 5)).trans (Cert.RingProof.finalA_2 m ρ c), (h.1 c (3 : Fin 5)).trans (Cert.RingProof.finalA_3 m ρ c)⟩, h.2⟩)
    (Cert.RingProof.run_main (F := F) m ρ)

/-- The frame of the kernel's idealization. -/
theorem frame_ideal : Cert.quiescent_KernelIdeal (hKernelIdeal := Cert.KernelIdeal.Gen.facts) := fun m ρ _ => frame_any (F := Ideal) m ρ

/-- The frame of the kernel: its program is its idealization's, which rewrites nothing. -/
theorem frame_kernel : Cert.quiescent_Kernel (hKernel := Cert.Kernel.Gen.facts) := by
  intro m ρ _
  have h := frame_any (F := Bits) m ρ
  rw [← Cert.Same.defs_same] at h
  exact h

/-- Every fair execution of the reference ends with its arguments unchanged and every counter at zero. -/
theorem frame_reference : Cert.quiescent_ReferenceIdeal (hReferenceIdeal := Cert.ReferenceIdeal.Gen.facts) := fun m ρ _ =>
  Cert.ReferenceIdeal.Gen.frame m ρ

/-- Over the extended reals the four devices' results are the four row blocks of the reference's result. -/
theorem value : Cert.algebraic_KernelIdeal_ReferenceIdeal (hKernelIdeal := Cert.KernelIdeal.Gen.facts)
    (hReferenceIdeal := Cert.ReferenceIdeal.Gen.facts) := fun m ρ m' ρ' _ hin =>
  ⟨_,
    (θ_run (Cert.KernelIdeal.defs (F := Ideal)) _ _).mono
      (fun _ h c => ⟨(h.1 c (4 : Fin 5)).trans ((Cert.RingProof.finalA_4 m ρ c).trans
          (Cert.RingProof.outAt_eq ρ (fun d => ⟨(hin d).1, (hin d).2.1⟩) _ _ c (hin c).2.2.1 (hin c).2.2.2)),
        (h.1 c (0 : Fin 5)).trans (Cert.RingProof.finalA_0 m ρ c), (h.1 c (1 : Fin 5)).trans (Cert.RingProof.finalA_1 m ρ c),
        (h.1 c (2 : Fin 5)).trans (Cert.RingProof.finalA_2 m ρ c), (h.1 c (3 : Fin 5)).trans (Cert.RingProof.finalA_3 m ρ c)⟩)
      (Cert.RingProof.run_main (F := Ideal) m ρ),
    (θ_run (Cert.ReferenceIdeal.defs (F := Ideal)) _ _).mono (fun _ h => h 0) (Cert.RefProof.run_spec m' ρ')⟩

/-- The certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
